-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_lengths_in_range [hPre_lengths_in_range : Cert.Pre_lengths_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_lengths_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_lengths_in_range [hPre_lengths_in_range : Cert.Pre_lengths_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_lengths_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Kernel2Ideal_pre_lengths_in_range [hKernel2Ideal : Cert.Kernel2Ideal.Facts] [hPre_lengths_in_range : Cert.Pre_lengths_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_lengths_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_lengths_in_range [hReference2Ideal : Cert.Reference2Ideal.Facts] [hPre_lengths_in_range : Cert.Pre_lengths_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_lengths_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_lengths_in_range [hKernel2Ideal : Cert.Kernel2Ideal.Facts] [hReference2Ideal : Cert.Reference2Ideal.Facts] [hPre_lengths_in_range : Cert.Pre_lengths_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_lengths_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v30_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_lengths_in_range : Cert.Pre_lengths_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_lengths_in_range (hKernel2Ideal := hKernel2Ideal) (hPre_lengths_in_range := hPre_lengths_in_range)
    ∧ quiescent_Reference2Ideal (hReference2Ideal := hReference2Ideal)
    ∧ quiescent_Reference2Ideal_pre_lengths_in_range (hReference2Ideal := hReference2Ideal) (hPre_lengths_in_range := hPre_lengths_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_lengths_in_range (hKernel2Ideal := hKernel2Ideal) (hReference2Ideal := hReference2Ideal) (hPre_lengths_in_range := hPre_lengths_in_range)
-- ==== Pre_lengths_in_range.lean ====
abbrev S25x30x8192 : Shape := ⟨3, ![25, 30, 8192]⟩
abbrev S200x1024 : Shape := ⟨2, ![200, 1024]⟩
abbrev S1x8192 : Shape := ⟨2, ![1, 8192]⟩
abbrev S1024x30 : Shape := ⟨2, ![1024, 30]⟩
abbrev S1024x300 : Shape := ⟨2, ![1024, 300]⟩
abbrev S1024 : Shape := ⟨1, ![1024]⟩
abbrev S30x90 : Shape := ⟨2, ![30, 90]⟩
abbrev S360x64 : Shape := ⟨2, ![360, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S25x30x8192 .bf16) (main_arg1 : FVec F S200x1024 .f32) (main_arg2 : FVec F S1x8192 .f32) (main_arg3 : FVec F S1024x30 .f32) (main_arg4 : FVec F S1024x300 .f32) (main_arg5 : IVec S1024 32) (main_arg6 : FVec F S30x90 .f32) (main_arg7 : FVec F S30x90 .f32) (main_arg8 : FVec F S360x64 .f32) (main_arg9 : FVec F S64 .f32) (main_arg10 : FVec F S64x16 .f32) (main_arg11 : FVec F S16 .f32) (main_arg12 : FVec F S16x1 .f32) (main_arg13 : FVec F S1 .f32) (main_arg14 : FVec F S64 .f32) (main_arg15 : FVec F S16 .f32) (main_arg16 : FVec F S1 .f32) : IVec S1024 1 :=
  let main_c : IVec S_ 32 := constantI S_ 32 1#32
  let main_v0 : IVec S1024 32 := broadcastInDim S1024 ![] bcast_S_S1024 main_c
  let main_v1 : IVec S1024 1 := cmpi .sge main_arg5 main_v0
  let main_c_0 : IVec S_ 32 := constantI S_ 32 200#32
  let main_v2 : IVec S1024 32 := broadcastInDim S1024 ![] bcast_S_S1024 main_c_0
  let main_v3 : IVec S1024 1 := cmpi .sle main_arg5 main_v2
  let main_v4 : IVec S1024 1 := andi main_v1 main_v3
  main_v4
-- ==== Kernel.lean ====
abbrev S1024x200x30 : Shape := ⟨3, ![1024, 200, 30]⟩
abbrev S1024x30 : Shape := ⟨2, ![1024, 30]⟩
abbrev S1024 : Shape := ⟨1, ![1024]⟩
abbrev S30x90 : Shape := ⟨2, ![30, 90]⟩
abbrev S60x32 : Shape := ⟨2, ![60, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S30x40 : Shape := ⟨2, ![30, 40]⟩
abbrev S40 : Shape := ⟨1, ![40]⟩
abbrev S40x1 : Shape := ⟨2, ![40, 1]⟩
abbrev S1024x25x8x30 : Shape := ⟨4, ![1024, 25, 8, 30]⟩
abbrev S25x30x8x1024 : Shape := ⟨4, ![25, 30, 8, 1024]⟩
abbrev S25x30x8192 : Shape := ⟨3, ![25, 30, 8192]⟩
abbrev S30x1024 : Shape := ⟨2, ![30, 1024]⟩
abbrev S1x30x1x1024 : Shape := ⟨4, ![1, 30, 1, 1024]⟩
abbrev S1x30x8x1024 : Shape := ⟨4, ![1, 30, 8, 1024]⟩
abbrev S30x8192 : Shape := ⟨2, ![30, 8192]⟩
abbrev S1x1024 : Shape := ⟨2, ![1, 1024]⟩
abbrev S1x1x1x1024 : Shape := ⟨4, ![1, 1, 1, 1024]⟩
abbrev S1x1x8x1024 : Shape := ⟨4, ![1, 1, 8, 1024]⟩
abbrev S1x8192 : Shape := ⟨2, ![1, 8192]⟩
abbrev S90x30 : Shape := ⟨2, ![90, 30]⟩
abbrev S_ : Shape := ⟨0, ![]⟩
abbrev S2x30 : Shape := ⟨2, ![2, 30]⟩
abbrev S30x30 : Shape := ⟨2, ![30, 30]⟩
abbrev S96x30 : Shape := ⟨2, ![96, 30]⟩
abbrev S30x32 : Shape := ⟨2, ![30, 32]⟩
abbrev S32x30 : Shape := ⟨2, ![32, 30]⟩
abbrev S32x1 : Shape := ⟨2, ![32, 1]⟩
abbrev S16x32 : Shape := ⟨2, ![16, 32]⟩
abbrev S1x16 : Shape := ⟨2, ![1, 16]⟩
abbrev S1x1 : Shape := ⟨2, ![1, 1]⟩
abbrev S40x30 : Shape := ⟨2, ![40, 30]⟩
abbrev S1x40 : Shape := ⟨2, ![1, 40]⟩
abbrev S200x1024 : Shape := ⟨2, ![200, 1024]⟩
abbrev S1x30x8192 : Shape := ⟨3, ![1, 30, 8192]⟩
abbrev S8x1024 : Shape := ⟨2, ![8, 1024]⟩
abbrev S96x1024 : Shape := ⟨2, ![96, 1024]⟩
abbrev S64x1024 : Shape := ⟨2, ![64, 1024]⟩
abbrev S1x30x1024 : Shape := ⟨3, ![1, 30, 1024]⟩
abbrev S40x8192 : Shape := ⟨2, ![40, 8192]⟩
abbrev S30x7168 : Shape := ⟨2, ![30, 7168]⟩
abbrev S32x8192 : Shape := ⟨2, ![32, 8192]⟩
abbrev S16x8192 : Shape := ⟨2, ![16, 8192]⟩

abbrev nBuf : Space → Nat
  | .hbm => 65
  | .vmem => 26
  | .smem => 0
  | _ => 0

abbrev bufTy : (tb : Table) → Fin (tcTables nBuf tb) → BufTy
  | .hbm, ⟨0, _⟩ => ⟨S1024x200x30, .f32⟩
  | .hbm, ⟨1, _⟩ => ⟨S1024x200x30, .f32⟩
  | .hbm, ⟨2, _⟩ => ⟨S1024x30, .f32⟩
  | .hbm, ⟨3, _⟩ => ⟨S1024, .i32⟩
  | .hbm, ⟨4, _⟩ => ⟨S30x90, .f32⟩
  | .hbm, ⟨5, _⟩ => ⟨S30x90, .f32⟩
  | .hbm, ⟨6, _⟩ => ⟨S60x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S30x40, .f32⟩
  | .hbm, ⟨13, _⟩ => ⟨S40, .f32⟩
  | .hbm, ⟨14, _⟩ => ⟨S40x1, .f32⟩
  | .hbm, ⟨15, _⟩ => ⟨S1, .f32⟩
  | .hbm, ⟨16, _⟩ => ⟨S1024x200x30, .bf16⟩
  | .hbm, ⟨17, _⟩ => ⟨S1024x25x8x30, .bf16⟩
  | .hbm, ⟨18, _⟩ => ⟨S25x30x8x1024, .bf16⟩
  | .hbm, ⟨19, _⟩ => ⟨S25x30x8192, .bf16⟩
  | .hbm, ⟨20, _⟩ => ⟨S1024x200x30, .bf16⟩
  | .hbm, ⟨21, _⟩ => ⟨S1024x25x8x30, .bf16⟩
  | .hbm, ⟨22, _⟩ => ⟨S25x30x8x1024, .bf16⟩
  | .hbm, ⟨23, _⟩ => ⟨S25x30x8192, .bf16⟩
  | .hbm, ⟨24, _⟩ => ⟨S30x1024, .f32⟩
  | .hbm, ⟨25, _⟩ => ⟨S1x30x1x1024, .f32⟩
  | .hbm, ⟨26, _⟩ => ⟨S1x30x8x1024, .f32⟩
  | .hbm, ⟨27, _⟩ => ⟨S30x8192, .f32⟩
  | .hbm, ⟨28, _⟩ => ⟨S1x1024, .i32⟩
  | .hbm, ⟨29, _⟩ => ⟨S1x1x1x1024, .i32⟩
  | .hbm, ⟨30, _⟩ => ⟨S1x1x8x1024, .i32⟩
  | .hbm, ⟨31, _⟩ => ⟨S1x8192, .i32⟩
  | .hbm, ⟨32, _⟩ => ⟨S90x30, .f32⟩
  | .hbm, ⟨33, _⟩ => ⟨S_, .f32⟩
  | .hbm, ⟨34, _⟩ => ⟨S2x30, .f32⟩
  | .hbm, ⟨35, _⟩ => ⟨S30x30, .f32⟩
  | .hbm, ⟨36, _⟩ => ⟨S30x30, .f32⟩
  | .hbm, ⟨37, _⟩ => ⟨S30x30, .f32⟩
  | .hbm, ⟨38, _⟩ => ⟨S96x30, .f32⟩
  | .hbm, ⟨39, _⟩ => ⟨S96x30, .bf16⟩
  | .hbm, ⟨40, _⟩ => ⟨S90x30, .f32⟩
  | .hbm, ⟨41, _⟩ => ⟨S_, .f32⟩
  | .hbm, ⟨42, _⟩ => ⟨S2x30, .f32⟩
  | .hbm, ⟨43, _⟩ => ⟨S30x30, .f32⟩
  | .hbm, ⟨44, _⟩ => ⟨S30x30, .f32⟩
  | .hbm, ⟨45, _⟩ => ⟨S30x30, .f32⟩
  | .hbm, ⟨46, _⟩ => ⟨S96x30, .f32⟩
  | .hbm, ⟨47, _⟩ => ⟨S30x32, .f32⟩
  | .hbm, ⟨48, _⟩ => ⟨S32x30, .f32⟩
  | .hbm, ⟨49, _⟩ => ⟨S32x30, .bf16⟩
  | .hbm, ⟨50, _⟩ => ⟨S30x32, .f32⟩
  | .hbm, ⟨51, _⟩ => ⟨S32x30, .f32⟩
  | .hbm, ⟨52, _⟩ => ⟨S32x30, .bf16⟩
  | .hbm, ⟨53, _⟩ => ⟨S32x1, .f32⟩
  | .hbm, ⟨54, _⟩ => ⟨S16x32, .f32⟩
  | .hbm, ⟨55, _⟩ => ⟨S16x1, .f32⟩
  | .hbm, ⟨56, _⟩ => ⟨S1x16, .f32⟩
  | .hbm, ⟨57, _⟩ => ⟨S1x1, .f32⟩
  | .hbm, ⟨58, _⟩ => ⟨S40x30, .f32⟩
  | .hbm, ⟨59, _⟩ => ⟨S40x1, .f32⟩
  | .hbm, ⟨60, _⟩ => ⟨S1x40, .f32⟩
  | .hbm, ⟨61, _⟩ => ⟨S1x1, .f32⟩
  | .hbm, ⟨62, _⟩ => ⟨S25x30x8192, .bf16⟩
  | .hbm, ⟨63, _⟩ => ⟨S200x1024, .f32⟩
  | .hbm, ⟨64, _⟩ => ⟨S1x8192, .f32⟩
  | .local _ .vmem, ⟨0, _⟩ => ⟨S1x30x8192, .bf16⟩
  | .local _ .vmem, ⟨1, _⟩ => ⟨S1x30x8192, .bf16⟩
  | .local _ .vmem, ⟨2, _⟩ => ⟨S1x30x8192, .bf16⟩
  | .local _ .vmem, ⟨3, _⟩ => ⟨S1x30x8192, .bf16⟩
  | .local _ .vmem, ⟨4, _⟩ => ⟨S30x8192, .f32⟩
  | .local _ .vmem, ⟨5, _⟩ => ⟨S1x1024, .i32⟩
  | .local _ .vmem, ⟨6, _⟩ => ⟨S1x8192, .i32⟩
  | .local _ .vmem, ⟨7, _⟩ => ⟨S96x30, .bf16⟩
  | .local _ .vmem, ⟨8, _⟩ => ⟨S96x30, .f32⟩
  | .local _ .vmem, ⟨9, _⟩ => ⟨S32x30, .bf16⟩
  | .local _ .vmem, ⟨10, _⟩ => ⟨S32x30, .bf16⟩
  | .local _ .vmem, ⟨11, _⟩ => ⟨S32x1, .f32⟩
  | .local _ .vmem, ⟨12, _⟩ => ⟨S16x32, .f32⟩
  | .local _ .vmem, ⟨13, _⟩ => ⟨S16x1, .f32⟩
  | .local _ .vmem, ⟨14, _⟩ => ⟨S1x16, .f32⟩
  | .local _ .vmem, ⟨15, _⟩ => ⟨S1x1, .f32⟩
  | .local _ .vmem, ⟨16, _⟩ => ⟨S40x30, .f32⟩
  | .local _ .vmem, ⟨17, _⟩ => ⟨S40x1, .f32⟩
  | .local _ .vmem, ⟨18, _⟩ => ⟨S1x40, .f32⟩
  | .local _ .vmem, ⟨19, _⟩ => ⟨S1x1, .f32⟩
  | .local _ .vmem, ⟨20, _⟩ => ⟨S1x30x8192, .bf16⟩
  | .local _ .vmem, ⟨21, _⟩ => ⟨S1x30x8192, .bf16⟩
  | .local _ .vmem, ⟨22, _⟩ => ⟨S8x1024, .f32⟩
  | .local _ .vmem, ⟨23, _⟩ => ⟨S8x1024, .f32⟩
  | .local _ .vmem, ⟨24, _⟩ => ⟨S1x8192, .f32⟩
  | .local _ .vmem, ⟨25, _⟩ => ⟨S30x1024, .f32⟩
  | _, _ => ⟨S1024x200x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x30x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x30x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x30 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x30 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x30 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x30 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S40x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x40 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x30x8192 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x8192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S1024x200x30 : Shape := ⟨3, ![1024, 200, 30]⟩
abbrev S1024x30 : Shape := ⟨2, ![1024, 30]⟩
abbrev S1024 : Shape := ⟨1, ![1024]⟩
abbrev S30x90 : Shape := ⟨2, ![30, 90]⟩
abbrev S60x32 : Shape := ⟨2, ![60, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S30x40 : Shape := ⟨2, ![30, 40]⟩
abbrev S40 : Shape := ⟨1, ![40]⟩
abbrev S40x1 : Shape := ⟨2, ![40, 1]⟩
abbrev S200 : Shape := ⟨1, ![200]⟩
abbrev S200x1 : Shape := ⟨2, ![200, 1]⟩
abbrev S1x1024 : Shape := ⟨2, ![1, 1024]⟩
abbrev S200x1024 : Shape := ⟨2, ![200, 1024]⟩
abbrev S200x1024x1 : Shape := ⟨3, ![200, 1024, 1]⟩
abbrev S200x1024x30 : Shape := ⟨3, ![200, 1024, 30]⟩
abbrev S_ : Shape := ⟨0, ![]⟩
abbrev S1x1024x30 : Shape := ⟨3, ![1, 1024, 30]⟩
abbrev S1x1024x1 : Shape := ⟨3, ![1, 1024, 1]⟩
abbrev S1024x1 : Shape := ⟨2, ![1024, 1]⟩
abbrev S1024x90 : Shape := ⟨2, ![1024, 90]⟩
abbrev S1024x199x30 : Shape := ⟨3, ![1024, 199, 30]⟩
abbrev S1024x199x60 : Shape := ⟨3, ![1024, 199, 60]⟩
abbrev S1024x199x32 : Shape := ⟨3, ![1024, 199, 32]⟩
abbrev S1x1x32 : Shape := ⟨3, ![1, 1, 32]⟩
abbrev S1024x199x16 : Shape := ⟨3, ![1024, 199, 16]⟩
abbrev S1x1x16 : Shape := ⟨3, ![1, 1, 16]⟩
abbrev S1024x199x1 : Shape := ⟨3, ![1024, 199, 1]⟩
abbrev S1x1x1 : Shape := ⟨3, ![1, 1, 1]⟩
abbrev S1024x199 : Shape := ⟨2, ![1024, 199]⟩
abbrev S1x200 : Shape := ⟨2, ![1, 200]⟩
abbrev S1024x200 : Shape := ⟨2, ![1024, 200]⟩
abbrev S1024x1x30 : Shape := ⟨3, ![1024, 1, 30]⟩
abbrev S1024x200x40 : Shape := ⟨3, ![1024, 200, 40]⟩
abbrev S1x1x40 : Shape := ⟨3, ![1, 1, 40]⟩
abbrev S1024x200x1 : Shape := ⟨3, ![1024, 200, 1]⟩
abbrev S1024x25x8x30 : Shape := ⟨4, ![1024, 25, 8, 30]⟩
abbrev S25x30x8x1024 : Shape := ⟨4, ![25, 30, 8, 1024]⟩
abbrev S25x30x8192 : Shape := ⟨3, ![25, 30, 8192]⟩
abbrev S1024x25x8 : Shape := ⟨3, ![1024, 25, 8]⟩
abbrev S1024x8 : Shape := ⟨2, ![1024, 8]⟩
abbrev S8x1024 : Shape := ⟨2, ![8, 1024]⟩
abbrev S1x8192 : Shape := ⟨2, ![1, 8192]⟩

abbrev nBuf : Space → Nat
  | .hbm => 231
  | .vmem => 0
  | .smem => 0
  | _ => 0

abbrev hbmTy0_0 (i : Nat) : BufTy := match i % 128 with
  | 0 => ⟨S1024x200x30, .f32⟩
  | 1 => ⟨S1024x200x30, .f32⟩
  | 2 => ⟨S1024x30, .f32⟩
  | 3 => ⟨S1024, .i32⟩
  | 4 => ⟨S30x90, .f32⟩
  | 5 => ⟨S30x90, .f32⟩
  | 6 => ⟨S60x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S30x40, .f32⟩
  | 13 => ⟨S40, .f32⟩
  | 14 => ⟨S40x1, .f32⟩
  | 15 => ⟨S1, .f32⟩
  | 16 => ⟨S200, .i32⟩
  | 17 => ⟨S200x1, .i32⟩
  | 18 => ⟨S1x1024, .i32⟩
  | 19 => ⟨S200x1024, .i32⟩
  | 20 => ⟨S200x1024, .i32⟩
  | 21 => ⟨S200x1024, .i1⟩
  | 22 => ⟨S200x1024x1, .i1⟩
  | 23 => ⟨S200x1024x30, .f32⟩
  | 24 => ⟨S_, .f32⟩
  | 25 => ⟨S1024x30, .f32⟩
  | 26 => ⟨S_, .f32⟩
  | 27 => ⟨S200x1024x30, .f32⟩
  | 28 => ⟨S_, .i32⟩
  | 29 => ⟨S200x1024x30, .f32⟩
  | 30 => ⟨S200x1024x1, .i1⟩
  | 31 => ⟨S30x90, .f32⟩
  | 32 => ⟨S30x90, .f32⟩
  | 33 => ⟨S_, .i32⟩
  | 34 => ⟨S1024x30, .f32⟩
  | 35 => ⟨S200x1024x30, .f32⟩
  | 36 => ⟨S_, .i32⟩
  | 37 => ⟨S_, .i1⟩
  | 38 => ⟨S_, .i32⟩
  | 39 => ⟨S_, .i32⟩
  | 40 => ⟨S1x1024x30, .f32⟩
  | 41 => ⟨S1024x30, .f32⟩
  | 42 => ⟨S_, .i32⟩
  | 43 => ⟨S_, .i32⟩
  | 44 => ⟨S1x1024x1, .i1⟩
  | 45 => ⟨S1024x1, .i1⟩
  | 46 => ⟨S1024x90, .f32⟩
  | 47 => ⟨S1024x90, .f32⟩
  | 48 => ⟨S1024x30, .f32⟩
  | 49 => ⟨S1024x30, .f32⟩
  | 50 => ⟨S1024x30, .f32⟩
  | 51 => ⟨S1024x30, .f32⟩
  | 52 => ⟨S1024x30, .f32⟩
  | 53 => ⟨S1024x30, .f32⟩
  | 54 => ⟨S1024x30, .f32⟩
  | 55 => ⟨S1024x30, .f32⟩
  | 56 => ⟨S1024x30, .f32⟩
  | 57 => ⟨S_, .f32⟩
  | 58 => ⟨S1024x30, .f32⟩
  | 59 => ⟨S1024x30, .f32⟩
  | 60 => ⟨S_, .f32⟩
  | 61 => ⟨S1024x30, .f32⟩
  | 62 => ⟨S1024x30, .f32⟩
  | 63 => ⟨S1024x30, .f32⟩
  | 64 => ⟨S1024x30, .f32⟩
  | 65 => ⟨S1024x30, .f32⟩
  | 66 => ⟨S_, .f32⟩
  | 67 => ⟨S1024x30, .f32⟩
  | 68 => ⟨S1024x30, .f32⟩
  | 69 => ⟨S_, .f32⟩
  | 70 => ⟨S1024x30, .f32⟩
  | 71 => ⟨S1024x30, .f32⟩
  | 72 => ⟨S1024x30, .f32⟩
  | 73 => ⟨S1024x30, .f32⟩
  | 74 => ⟨S1024x30, .f32⟩
  | 75 => ⟨S_, .f32⟩
  | 76 => ⟨S1024x30, .f32⟩
  | 77 => ⟨S1024x30, .f32⟩
  | 78 => ⟨S1024x30, .f32⟩
  | 79 => ⟨S1024x30, .f32⟩
  | 80 => ⟨S1024x30, .f32⟩
  | 81 => ⟨S1024x30, .i1⟩
  | 82 => ⟨S1024x30, .f32⟩
  | 83 => ⟨S1x1024x30, .f32⟩
  | 84 => ⟨S_, .i32⟩
  | 85 => ⟨S_, .i32⟩
  | 86 => ⟨S200x1024x30, .f32⟩
  | 87 => ⟨S_, .i32⟩
  | 88 => ⟨S_, .i32⟩
  | 89 => ⟨S1024x200x30, .f32⟩
  | 90 => ⟨S1024x199x30, .f32⟩
  | 91 => ⟨S1024x199x30, .f32⟩
  | 92 => ⟨S1024x199x60, .f32⟩
  | 93 => ⟨S1024x199x32, .f32⟩
  | 94 => ⟨S1x1x32, .f32⟩
  | 95 => ⟨S1024x199x32, .f32⟩
  | 96 => ⟨S1024x199x32, .f32⟩
  | 97 => ⟨S1024x199x32, .f32⟩
  | 98 => ⟨S1024x199x32, .f32⟩
  | 99 => ⟨S_, .f32⟩
  | 100 => ⟨S1024x199x32, .f32⟩
  | 101 => ⟨S1024x199x32, .f32⟩
  | 102 => ⟨S_, .f32⟩
  | 103 => ⟨S1024x199x32, .f32⟩
  | 104 => ⟨S1024x199x32, .f32⟩
  | 105 => ⟨S1024x199x16, .f32⟩
  | 106 => ⟨S1x1x16, .f32⟩
  | 107 => ⟨S1024x199x16, .f32⟩
  | 108 => ⟨S1024x199x16, .f32⟩
  | 109 => ⟨S1024x199x16, .f32⟩
  | 110 => ⟨S1024x199x16, .f32⟩
  | 111 => ⟨S_, .f32⟩
  | 112 => ⟨S1024x199x16, .f32⟩
  | 113 => ⟨S1024x199x16, .f32⟩
  | 114 => ⟨S_, .f32⟩
  | 115 => ⟨S1024x199x16, .f32⟩
  | 116 => ⟨S1024x199x16, .f32⟩
  | 117 => ⟨S1024x199x1, .f32⟩
  | 118 => ⟨S1x1x1, .f32⟩
  | 119 => ⟨S1024x199x1, .f32⟩
  | 120 => ⟨S1024x199x1, .f32⟩
  | 121 => ⟨S1024x199, .f32⟩
  | 122 => ⟨S1024x199x30, .f32⟩
  | 123 => ⟨S1024x199x60, .f32⟩
  | 124 => ⟨S1024x199x32, .f32⟩
  | 125 => ⟨S1x1x32, .f32⟩
  | 126 => ⟨S1024x199x32, .f32⟩
  | 127 => ⟨S1024x199x32, .f32⟩
  | _ => ⟨S1024x200x30, .f32⟩

abbrev hbmTy0_1 (i : Nat) : BufTy := match i % 128 with
  | 0 => ⟨S1024x199x32, .f32⟩
  | 1 => ⟨S1024x199x32, .f32⟩
  | 2 => ⟨S_, .f32⟩
  | 3 => ⟨S1024x199x32, .f32⟩
  | 4 => ⟨S1024x199x32, .f32⟩
  | 5 => ⟨S_, .f32⟩
  | 6 => ⟨S1024x199x32, .f32⟩
  | 7 => ⟨S1024x199x32, .f32⟩
  | 8 => ⟨S1024x199x16, .f32⟩
  | 9 => ⟨S1x1x16, .f32⟩
  | 10 => ⟨S1024x199x16, .f32⟩
  | 11 => ⟨S1024x199x16, .f32⟩
  | 12 => ⟨S1024x199x16, .f32⟩
  | 13 => ⟨S1024x199x16, .f32⟩
  | 14 => ⟨S_, .f32⟩
  | 15 => ⟨S1024x199x16, .f32⟩
  | 16 => ⟨S1024x199x16, .f32⟩
  | 17 => ⟨S_, .f32⟩
  | 18 => ⟨S1024x199x16, .f32⟩
  | 19 => ⟨S1024x199x16, .f32⟩
  | 20 => ⟨S1024x199x1, .f32⟩
  | 21 => ⟨S1x1x1, .f32⟩
  | 22 => ⟨S1024x199x1, .f32⟩
  | 23 => ⟨S1024x199x1, .f32⟩
  | 24 => ⟨S1024x199, .f32⟩
  | 25 => ⟨S200, .i32⟩
  | 26 => ⟨S1x200, .i32⟩
  | 27 => ⟨S1024x1, .i32⟩
  | 28 => ⟨S1024x200, .i32⟩
  | 29 => ⟨S1024x200, .i32⟩
  | 30 => ⟨S1024x200, .i1⟩
  | 31 => ⟨S1024x199, .i1⟩
  | 32 => ⟨S1024x199, .f32⟩
  | 33 => ⟨S1024x199, .f32⟩
  | 34 => ⟨S_, .f32⟩
  | 35 => ⟨S1024x199, .f32⟩
  | 36 => ⟨S1024x199, .f32⟩
  | 37 => ⟨S1024x199, .f32⟩
  | 38 => ⟨S1024x199, .f32⟩
  | 39 => ⟨S1024x199, .i1⟩
  | 40 => ⟨S1024x199, .f32⟩
  | 41 => ⟨S1024x199, .f32⟩
  | 42 => ⟨S1024x199, .f32⟩
  | 43 => ⟨S1024x199, .f32⟩
  | 44 => ⟨S1024x199, .f32⟩
  | 45 => ⟨S1024x199, .f32⟩
  | 46 => ⟨S1024x199, .f32⟩
  | 47 => ⟨S1024x199, .f32⟩
  | 48 => ⟨S1024x199, .f32⟩
  | 49 => ⟨S1024x199, .f32⟩
  | 50 => ⟨S1024x199, .f32⟩
  | 51 => ⟨S1024x199, .f32⟩
  | 52 => ⟨S_, .f32⟩
  | 53 => ⟨S1024x199, .f32⟩
  | 54 => ⟨S1024x199, .f32⟩
  | 55 => ⟨S1024x199, .f32⟩
  | 56 => ⟨S1024x199, .f32⟩
  | 57 => ⟨S1024x199, .i1⟩
  | 58 => ⟨S1024x199, .f32⟩
  | 59 => ⟨S1024x199, .f32⟩
  | 60 => ⟨S1024x199, .f32⟩
  | 61 => ⟨S1024x199, .f32⟩
  | 62 => ⟨S1024x199, .f32⟩
  | 63 => ⟨S1024x199, .f32⟩
  | 64 => ⟨S1024x199, .f32⟩
  | 65 => ⟨S1024x199, .f32⟩
  | 66 => ⟨S1024x199, .f32⟩
  | 67 => ⟨S1024x199, .f32⟩
  | 68 => ⟨S1024x199, .f32⟩
  | 69 => ⟨S1024x199, .f32⟩
  | 70 => ⟨S1024x1x30, .f32⟩
  | 71 => ⟨S1024x200x30, .f32⟩
  | 72 => ⟨S1024x200x30, .f32⟩
  | 73 => ⟨S1024x200x40, .f32⟩
  | 74 => ⟨S1x1x40, .f32⟩
  | 75 => ⟨S1024x200x40, .f32⟩
  | 76 => ⟨S1024x200x40, .f32⟩
  | 77 => ⟨S1024x200x40, .f32⟩
  | 78 => ⟨S1024x200x40, .f32⟩
  | 79 => ⟨S_, .f32⟩
  | 80 => ⟨S1024x200x40, .f32⟩
  | 81 => ⟨S1024x200x40, .f32⟩
  | 82 => ⟨S_, .f32⟩
  | 83 => ⟨S1024x200x40, .f32⟩
  | 84 => ⟨S1024x200x40, .f32⟩
  | 85 => ⟨S1024x200x1, .f32⟩
  | 86 => ⟨S1x1x1, .f32⟩
  | 87 => ⟨S1024x200x1, .f32⟩
  | 88 => ⟨S1024x200x1, .f32⟩
  | 89 => ⟨S1024x200, .f32⟩
  | 90 => ⟨S1024x25x8x30, .f32⟩
  | 91 => ⟨S25x30x8x1024, .f32⟩
  | 92 => ⟨S25x30x8192, .f32⟩
  | 93 => ⟨S_, .f32⟩
  | 94 => ⟨S1024x1, .f32⟩
  | 95 => ⟨S1024x200, .f32⟩
  | 96 => ⟨S1024x25x8, .f32⟩
  | 97 => ⟨S_, .f32⟩
  | 98 => ⟨S1024x8, .f32⟩
  | 99 => ⟨S8x1024, .f32⟩
  | 100 => ⟨S1x8192, .f32⟩
  | 101 => ⟨S25x30x8192, .bf16⟩
  | 102 => ⟨S200x1024, .f32⟩
  | _ => ⟨S1024x200x30, .f32⟩

abbrev hbmTy (i : Nat) : BufTy := match i / 128 with
  | 0 => hbmTy0_0 i
  | 1 => hbmTy0_1 i
  | _ => ⟨S1024x200x30, .f32⟩

abbrev bufTy : (tb : Table) → Fin (tcTables nBuf tb) → BufTy
  | .hbm, ⟨i, _⟩ => hbmTy i
  | _, _ => ⟨S1024x200x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_c : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev main_v10_4 : Ref sig .tc := ⟨.hbm, 33, rfl⟩
abbrev main_v10_5 : Ref sig .tc := ⟨.hbm, 34, rfl⟩
abbrev main_v10_6 : Ref sig .tc := ⟨.hbm, 35, rfl⟩
abbrev main_while0c_c_21 : Ref sig .tc := ⟨.hbm, 36, rfl⟩
abbrev main_while0c_v139 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v139 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v140 : Ref sig .tc := ⟨.hbm, 45, rfl⟩
abbrev main_while0b_v141 : Ref sig .tc := ⟨.hbm, 46, rfl⟩
abbrev main_while0b_v142 : Ref sig .tc := ⟨.hbm, 47, rfl⟩
abbrev main_while0b_v143 : Ref sig .tc := ⟨.hbm, 48, rfl⟩
abbrev main_while0b_v144 : Ref sig .tc := ⟨.hbm, 49, rfl⟩
abbrev main_while0b_v145 : Ref sig .tc := ⟨.hbm, 50, rfl⟩
abbrev main_while0b_v146 : Ref sig .tc := ⟨.hbm, 51, rfl⟩
abbrev main_while0b_v147 : Ref sig .tc := ⟨.hbm, 52, rfl⟩
abbrev main_while0b_v148 : Ref sig .tc := ⟨.hbm, 53, rfl⟩
abbrev main_while0b_v149 : Ref sig .tc := ⟨.hbm, 54, rfl⟩
abbrev main_while0b_v150 : Ref sig .tc := ⟨.hbm, 55, rfl⟩
abbrev main_while0b_v151 : Ref sig .tc := ⟨.hbm, 56, rfl⟩
abbrev main_while0b_cst_21 : Ref sig .tc := ⟨.hbm, 57, rfl⟩
abbrev main_while0b_v152 : Ref sig .tc := ⟨.hbm, 58, rfl⟩
abbrev main_while0b_v153 : Ref sig .tc := ⟨.hbm, 59, rfl⟩
abbrev main_while0b_cst_22 : Ref sig .tc := ⟨.hbm, 60, rfl⟩
abbrev main_while0b_v154 : Ref sig .tc := ⟨.hbm, 61, rfl⟩
abbrev main_while0b_v155 : Ref sig .tc := ⟨.hbm, 62, rfl⟩
abbrev main_while0b_v156 : Ref sig .tc := ⟨.hbm, 63, rfl⟩
abbrev main_while0b_v157 : Ref sig .tc := ⟨.hbm, 64, rfl⟩
abbrev main_while0b_v158 : Ref sig .tc := ⟨.hbm, 65, rfl⟩
abbrev main_while0b_cst_23 : Ref sig .tc := ⟨.hbm, 66, rfl⟩
abbrev main_while0b_v159 : Ref sig .tc := ⟨.hbm, 67, rfl⟩
abbrev main_while0b_v160 : Ref sig .tc := ⟨.hbm, 68, rfl⟩
abbrev main_while0b_cst_24 : Ref sig .tc := ⟨.hbm, 69, rfl⟩
abbrev main_while0b_v161 : Ref sig .tc := ⟨.hbm, 70, rfl⟩
abbrev main_while0b_v162 : Ref sig .tc := ⟨.hbm, 71, rfl⟩
abbrev main_while0b_v163 : Ref sig .tc := ⟨.hbm, 72, rfl⟩
abbrev main_while0b_v164 : Ref sig .tc := ⟨.hbm, 73, rfl⟩
abbrev main_while0b_v165 : Ref sig .tc := ⟨.hbm, 74, rfl⟩
abbrev main_while0b_cst_25 : Ref sig .tc := ⟨.hbm, 75, rfl⟩
abbrev main_while0b_v166 : Ref sig .tc := ⟨.hbm, 76, rfl⟩
abbrev main_while0b_v167 : Ref sig .tc := ⟨.hbm, 77, rfl⟩
abbrev main_while0b_v168 : Ref sig .tc := ⟨.hbm, 78, rfl⟩
abbrev main_while0b_v169 : Ref sig .tc := ⟨.hbm, 79, rfl⟩
abbrev main_while0b_v170 : Ref sig .tc := ⟨.hbm, 80, rfl⟩
abbrev main_while0b_call2_v0 : Ref sig .tc := ⟨.hbm, 81, rfl⟩
abbrev main_while0b_v171 : Ref sig .tc := ⟨.hbm, 82, rfl⟩
abbrev main_while0b_call3_v0 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_v172 : Ref sig .tc := ⟨.hbm, 86, rfl⟩
abbrev main_while0b_c_26 : Ref sig .tc := ⟨.hbm, 87, rfl⟩
abbrev main_while0b_v173 : Ref sig .tc := ⟨.hbm, 88, rfl⟩
abbrev main_v11 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_cst_1 : Ref sig .tc := ⟨.hbm, 99, rfl⟩
abbrev main_v21 : Ref sig .tc := ⟨.hbm, 100, rfl⟩
abbrev main_v22 : Ref sig .tc := ⟨.hbm, 101, rfl⟩
abbrev main_cst_2 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_cst_3 : Ref sig .tc := ⟨.hbm, 111, rfl⟩
abbrev main_v31 : Ref sig .tc := ⟨.hbm, 112, rfl⟩
abbrev main_v32 : Ref sig .tc := ⟨.hbm, 113, rfl⟩
abbrev main_cst_4 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_cst_5 : Ref sig .tc := ⟨.hbm, 130, rfl⟩
abbrev main_v48 : Ref sig .tc := ⟨.hbm, 131, rfl⟩
abbrev main_v49 : Ref sig .tc := ⟨.hbm, 132, rfl⟩
abbrev main_cst_6 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_cst_7 : Ref sig .tc := ⟨.hbm, 142, rfl⟩
abbrev main_v58 : Ref sig .tc := ⟨.hbm, 143, rfl⟩
abbrev main_v59 : Ref sig .tc := ⟨.hbm, 144, rfl⟩
abbrev main_cst_8 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_cst_9 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_cst_10 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_11 : Ref sig .tc := ⟨.hbm, 207, rfl⟩
abbrev main_v119 : Ref sig .tc := ⟨.hbm, 208, rfl⟩
abbrev main_v120 : Ref sig .tc := ⟨.hbm, 209, rfl⟩
abbrev main_cst_12 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_13 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_14 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩

abbrev nD : Nat := 1
abbrev τ : Topo := Topo.v7x

variable {F : FTy → Type} [FloatOps F]

abbrev main_while0_count : Scf.Loop 32 := ⟨0#32, 200#32, 1#32⟩
-- ==== Kernel2.lean ====
abbrev S25x30x8192 : Shape := ⟨3, ![25, 30, 8192]⟩
abbrev S200x1024 : Shape := ⟨2, ![200, 1024]⟩
abbrev S1x8192 : Shape := ⟨2, ![1, 8192]⟩
abbrev S1024x30 : Shape := ⟨2, ![1024, 30]⟩
abbrev S1024x300 : Shape := ⟨2, ![1024, 300]⟩
abbrev S1024 : Shape := ⟨1, ![1024]⟩
abbrev S30x90 : Shape := ⟨2, ![30, 90]⟩
abbrev S360x64 : Shape := ⟨2, ![360, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S30x1024 : Shape := ⟨2, ![30, 1024]⟩
abbrev S300x1024 : Shape := ⟨2, ![300, 1024]⟩
abbrev S1x1024 : Shape := ⟨2, ![1, 1024]⟩
abbrev S90x30 : Shape := ⟨2, ![90, 30]⟩
abbrev S_ : Shape := ⟨0, ![]⟩
abbrev S2x30 : Shape := ⟨2, ![2, 30]⟩
abbrev S30x30 : Shape := ⟨2, ![30, 30]⟩
abbrev S96x30 : Shape := ⟨2, ![96, 30]⟩
abbrev S30x64 : Shape := ⟨2, ![30, 64]⟩
abbrev S64x30 : Shape := ⟨2, ![64, 30]⟩
abbrev S300x64 : Shape := ⟨2, ![300, 64]⟩
abbrev S64x300 : Shape := ⟨2, ![64, 300]⟩
abbrev S64x1 : Shape := ⟨2, ![64, 1]⟩
abbrev S16x64 : Shape := ⟨2, ![16, 64]⟩
abbrev S1x16 : Shape := ⟨2, ![1, 16]⟩
abbrev S1x1 : Shape := ⟨2, ![1, 1]⟩
abbrev S5x30x8192 : Shape := ⟨3, ![5, 30, 8192]⟩
abbrev S1x30x8192 : Shape := ⟨3, ![1, 30, 8192]⟩
abbrev S30x8192 : Shape := ⟨2, ![30, 8192]⟩
abbrev S8x1024 : Shape := ⟨2, ![8, 1024]⟩
abbrev S96x1024 : Shape := ⟨2, ![96, 1024]⟩
abbrev S64x1024 : Shape := ⟨2, ![64, 1024]⟩
abbrev S16x1024 : Shape := ⟨2, ![16, 1024]⟩
abbrev S1x1x1024 : Shape := ⟨3, ![1, 1, 1024]⟩
abbrev S1x1x1 : Shape := ⟨3, ![1, 1, 1]⟩
abbrev S1x1x8192 : Shape := ⟨3, ![1, 1, 8192]⟩

abbrev nBuf : Space → Nat
  | .hbm => 51
  | .vmem => 24
  | .smem => 0
  | _ => 0

abbrev bufTy : (tb : Table) → Fin (tcTables nBuf tb) → BufTy
  | .hbm, ⟨0, _⟩ => ⟨S25x30x8192, .bf16⟩
  | .hbm, ⟨1, _⟩ => ⟨S200x1024, .f32⟩
  | .hbm, ⟨2, _⟩ => ⟨S1x8192, .f32⟩
  | .hbm, ⟨3, _⟩ => ⟨S1024x30, .f32⟩
  | .hbm, ⟨4, _⟩ => ⟨S1024x300, .f32⟩
  | .hbm, ⟨5, _⟩ => ⟨S1024, .i32⟩
  | .hbm, ⟨6, _⟩ => ⟨S30x90, .f32⟩
  | .hbm, ⟨7, _⟩ => ⟨S30x90, .f32⟩
  | .hbm, ⟨8, _⟩ => ⟨S360x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S64, .f32⟩
  | .hbm, ⟨15, _⟩ => ⟨S16, .f32⟩
  | .hbm, ⟨16, _⟩ => ⟨S1, .f32⟩
  | .hbm, ⟨17, _⟩ => ⟨S30x1024, .f32⟩
  | .hbm, ⟨18, _⟩ => ⟨S300x1024, .f32⟩
  | .hbm, ⟨19, _⟩ => ⟨S1x1024, .i32⟩
  | .hbm, ⟨20, _⟩ => ⟨S90x30, .f32⟩
  | .hbm, ⟨21, _⟩ => ⟨S_, .f32⟩
  | .hbm, ⟨22, _⟩ => ⟨S2x30, .f32⟩
  | .hbm, ⟨23, _⟩ => ⟨S30x30, .f32⟩
  | .hbm, ⟨24, _⟩ => ⟨S30x30, .f32⟩
  | .hbm, ⟨25, _⟩ => ⟨S30x30, .f32⟩
  | .hbm, ⟨26, _⟩ => ⟨S96x30, .f32⟩
  | .hbm, ⟨27, _⟩ => ⟨S96x30, .bf16⟩
  | .hbm, ⟨28, _⟩ => ⟨S90x30, .f32⟩
  | .hbm, ⟨29, _⟩ => ⟨S_, .f32⟩
  | .hbm, ⟨30, _⟩ => ⟨S2x30, .f32⟩
  | .hbm, ⟨31, _⟩ => ⟨S30x30, .f32⟩
  | .hbm, ⟨32, _⟩ => ⟨S30x30, .f32⟩
  | .hbm, ⟨33, _⟩ => ⟨S30x30, .f32⟩
  | .hbm, ⟨34, _⟩ => ⟨S96x30, .f32⟩
  | .hbm, ⟨35, _⟩ => ⟨S30x64, .f32⟩
  | .hbm, ⟨36, _⟩ => ⟨S64x30, .f32⟩
  | .hbm, ⟨37, _⟩ => ⟨S300x64, .f32⟩
  | .hbm, ⟨38, _⟩ => ⟨S64x300, .f32⟩
  | .hbm, ⟨39, _⟩ => ⟨S30x64, .f32⟩
  | .hbm, ⟨40, _⟩ => ⟨S64x30, .f32⟩
  | .hbm, ⟨41, _⟩ => ⟨S64x1, .f32⟩
  | .hbm, ⟨42, _⟩ => ⟨S16x64, .f32⟩
  | .hbm, ⟨43, _⟩ => ⟨S16x1, .f32⟩
  | .hbm, ⟨44, _⟩ => ⟨S1x16, .f32⟩
  | .hbm, ⟨45, _⟩ => ⟨S1x1, .f32⟩
  | .hbm, ⟨46, _⟩ => ⟨S64x1, .f32⟩
  | .hbm, ⟨47, _⟩ => ⟨S16x1, .f32⟩
  | .hbm, ⟨48, _⟩ => ⟨S1x1, .f32⟩
  | .hbm, ⟨49, _⟩ => ⟨S1x1024, .f32⟩
  | .hbm, ⟨50, _⟩ => ⟨S1x1, .f32⟩
  | .local _ .vmem, ⟨0, _⟩ => ⟨S5x30x8192, .bf16⟩
  | .local _ .vmem, ⟨1, _⟩ => ⟨S5x30x8192, .bf16⟩
  | .local _ .vmem, ⟨2, _⟩ => ⟨S200x1024, .f32⟩
  | .local _ .vmem, ⟨3, _⟩ => ⟨S1x1024, .i32⟩
  | .local _ .vmem, ⟨4, _⟩ => ⟨S96x30, .bf16⟩
  | .local _ .vmem, ⟨5, _⟩ => ⟨S96x30, .f32⟩
  | .local _ .vmem, ⟨6, _⟩ => ⟨S30x1024, .f32⟩
  | .local _ .vmem, ⟨7, _⟩ => ⟨S300x1024, .f32⟩
  | .local _ .vmem, ⟨8, _⟩ => ⟨S1x8192, .f32⟩
  | .local _ .vmem, ⟨9, _⟩ => ⟨S64x30, .f32⟩
  | .local _ .vmem, ⟨10, _⟩ => ⟨S64x300, .f32⟩
  | .local _ .vmem, ⟨11, _⟩ => ⟨S64x30, .f32⟩
  | .local _ .vmem, ⟨12, _⟩ => ⟨S64x1, .f32⟩
  | .local _ .vmem, ⟨13, _⟩ => ⟨S16x64, .f32⟩
  | .local _ .vmem, ⟨14, _⟩ => ⟨S16x1, .f32⟩
  | .local _ .vmem, ⟨15, _⟩ => ⟨S1x16, .f32⟩
  | .local _ .vmem, ⟨16, _⟩ => ⟨S1x1, .f32⟩
  | .local _ .vmem, ⟨17, _⟩ => ⟨S64x1, .f32⟩
  | .local _ .vmem, ⟨18, _⟩ => ⟨S16x1, .f32⟩
  | .local _ .vmem, ⟨19, _⟩ => ⟨S1x1, .f32⟩
  | .local _ .vmem, ⟨20, _⟩ => ⟨S1x1024, .f32⟩
  | .local _ .vmem, ⟨21, _⟩ => ⟨S1x1, .f32⟩
  | .local _ .vmem, ⟨22, _⟩ => ⟨S30x1024, .f32⟩
  | .local _ .vmem, ⟨23, _⟩ => ⟨S200x1024, .f32⟩
  | _, _ => ⟨S25x30x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21

abbrev nD : Nat := 1
abbrev τ : Topo := Topo.v7x

variable {F : FTy → Type} [FloatOps F]

abbrev grid0 : Pipeline.Grid := ⟨1, ![5], ![false]⟩

def k0_off1 (i : grid0.Coords) (c0_i32_8 : BitVec 32) : Fin 2 → Nat :=
  let arg0 : BitVec 32 := BitVec.ofNat 32 (i 0).val
  let c5_i32 : BitVec 32 := 5#32
  let v10 : BitVec 32 := Scalar.muli arg0 c5_i32
  let v11 : BitVec 32 := Scalar.addi v10 c0_i32_8
  let c8_i32 : BitVec 32 := 8#32
  let v14 : BitVec 32 := Scalar.muli v11 c8_i32
  let v15 : Index := Scalar.indexCast v14
  let c0_12 : Index := 0#32
  ![v15.toNat, 0]
def k0_cond2 (i : grid0.Coords) : BitVec 1 :=
  let arg0 : BitVec 32 := BitVec.ofNat 32 (i 0).val
  let c4_i32_232 : BitVec 32 := 4#32
  let v1208 : BitVec 1 := Scalar.cmpi .eq arg0 c4_i32_232
  let v1209 : BitVec 32 := Scalar.extui v1208
  let c0_i32_233 : BitVec 32 := 0#32
  let v1210 : BitVec 1 := Scalar.cmpi .ne v1209 c0_i32_233
  v1210

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x30x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x30 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x300 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x30 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S25x30x8192 : Shape := ⟨3, ![25, 30, 8192]⟩
abbrev S200x1024 : Shape := ⟨2, ![200, 1024]⟩
abbrev S1x8192 : Shape := ⟨2, ![1, 8192]⟩
abbrev S1024x30 : Shape := ⟨2, ![1024, 30]⟩
abbrev S1024x300 : Shape := ⟨2, ![1024, 300]⟩
abbrev S1024 : Shape := ⟨1, ![1024]⟩
abbrev S30x90 : Shape := ⟨2, ![30, 90]⟩
abbrev S360x64 : Shape := ⟨2, ![360, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S200 : Shape := ⟨1, ![200]⟩
abbrev S1x200 : Shape := ⟨2, ![1, 200]⟩
abbrev S1024x1 : Shape := ⟨2, ![1024, 1]⟩
abbrev S1024x200 : Shape := ⟨2, ![1024, 200]⟩
abbrev S1024x199 : Shape := ⟨2, ![1024, 199]⟩
abbrev S_ : Shape := ⟨0, ![]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S25x30x8192, .bf16⟩
  | .hbm, ⟨1, _⟩ => ⟨S200x1024, .f32⟩
  | .hbm, ⟨2, _⟩ => ⟨S1x8192, .f32⟩
  | .hbm, ⟨3, _⟩ => ⟨S1024x30, .f32⟩
  | .hbm, ⟨4, _⟩ => ⟨S1024x300, .f32⟩
  | .hbm, ⟨5, _⟩ => ⟨S1024, .i32⟩
  | .hbm, ⟨6, _⟩ => ⟨S30x90, .f32⟩
  | .hbm, ⟨7, _⟩ => ⟨S30x90, .f32⟩
  | .hbm, ⟨8, _⟩ => ⟨S360x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S64, .f32⟩
  | .hbm, ⟨15, _⟩ => ⟨S16, .f32⟩
  | .hbm, ⟨16, _⟩ => ⟨S1, .f32⟩
  | .hbm, ⟨17, _⟩ => ⟨S200, .i32⟩
  | .hbm, ⟨18, _⟩ => ⟨S1x200, .i32⟩
  | .hbm, ⟨19, _⟩ => ⟨S1024x1, .i32⟩
  | .hbm, ⟨20, _⟩ => ⟨S1024x200, .i32⟩
  | .hbm, ⟨21, _⟩ => ⟨S1024x200, .i32⟩
  | .hbm, ⟨22, _⟩ => ⟨S1024x200, .i1⟩
  | .hbm, ⟨23, _⟩ => ⟨S1024x199, .i1⟩
  | .hbm, ⟨24, _⟩ => ⟨S1024x199, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1, .f32⟩
  | _, _ => ⟨S25x30x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.KI.RunB.lean ====
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken: points 1, 2, … 24: 24 of 25), WITH the
    proof that on whole staging memrefs — the inputs' at their contents, the outputs it reads before covering (20) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) :
    Σ' (L18 : List (View.Piece (Elt F) S1x30x8192 .bf16)), Σ' (L19 : List (View.Piece (Elt F) S8x1024 .f32)), Σ' (L20 : List (View.Piece (Elt F) S1x8192 .f32)), { LS0 : List (View.Piece (Elt F) S30x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ owns (c : Thread nD τ) arg21 fullShare xo20 ∗ owns (c : Thread nD τ) arg22 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0)) -∗ K ⟨⟩))
          ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0__gru_kernel_eq_skeleton]; unfold cc0__gru_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg21.eq_unread hf20; obtain rfl := harg22.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    iexists _; iexact HS0

end Cert.KernelIdeal.Gen

end
-- ==== Proof.KI.Frame.lean ====
module

public import proofs.«01_k».proof.Proof.KI.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 18 tile its block (8 stores of `S1x30x1024`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (y : S1x30x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).1 S1x30x1024.size (by sl_kernel_rfl) y

/-- What case A leaves in output 18's staging buffer: its pieces read back over junk. -/
def out0_A_18 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) : Vec F S1x30x8192 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).1)

/-- Case A's pieces for output 19 tile its block (1 store of `S8x1024`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.1 S8x1024.size (by sl_kernel_rfl) y

/-- What case A leaves in output 19's staging buffer: its pieces read back over junk. -/
def out0_A_19 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) : Vec F S8x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.1)

/-- Case A's pieces for output 20 tile its block (2 stores of `S1x8192`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (y : S1x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.1 S1x8192.size (by sl_kernel_rfl) y

/-- What case A leaves in output 20's staging buffer: its pieces read back over junk. -/
def out0_A_20 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) : Vec F S1x8192 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.1)

/-- Case A's pieces for scratch `arg22`, which the kernel carries between points, cover it: 2 pieces of `S30x1024` tiling it (Lib/Ring.lean `Piece.tiledL`). -/
theorem scover0_A_0 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (y : S30x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.2.1 S30x1024.size (by sl_kernel_rfl) y

/-- What case A leaves in scratch `arg22`: its pieces read back over junk. -/
def sout0_A_0 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) : Vec F S30x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17).2.2.2.1)

/-- Case B's pieces for output 18 tile its block (8 stores of `S1x30x1024`, checked by the kernel's evaluation: Lib/Ring.lean `Piece.tiledL`, linear in the pieces, through a loop's `@[irreducible]` trip theorem too), so they cover it. -/
theorem cover0_B_18 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) (y : S1x30x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).1 S1x30x1024.size (by sl_kernel_rfl) y

/-- What case B leaves in output 18's staging buffer: its pieces read back over junk. -/
def out0_B_18 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) : Vec F S1x30x8192 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).1)

/-- Case B's pieces for output 19 tile its block (1 store of `S8x1024`, checked by the kernel's evaluation: Lib/Ring.lean `Piece.tiledL`, linear in the pieces, through a loop's `@[irreducible]` trip theorem too), so they cover it. -/
theorem cover0_B_19 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.1 S8x1024.size (by sl_kernel_rfl) y

/-- What case B leaves in output 19's staging buffer: its pieces read back over junk. -/
def out0_B_19 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) : Vec F S8x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.1)

/-- Case B's pieces for output 20 tile its block (1 store of `S1x8192`, checked by the kernel's evaluation: Lib/Ring.lean `Piece.tiledL`, linear in the pieces, through a loop's `@[irreducible]` trip theorem too), so they cover it. -/
theorem cover0_B_20 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) (y : S1x8192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.1 S1x8192.size (by sl_kernel_rfl) y

/-- What case B leaves in output 20's staging buffer: its pieces read back over junk. -/
def out0_B_20 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) : Vec F S1x8192 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.1)

/-- Case B's pieces for scratch `arg22`, which the kernel carries between points, cover it: 1 piece of `S30x1024` tiling it (Lib/Ring.lean `Piece.tiledL`). -/
theorem scover0_B_0 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) (y : S30x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.2.1 S30x1024.size (by sl_kernel_rfl) y

/-- What case B leaves in scratch `arg22`: its pieces read back over junk. -/
def sout0_B_0 (c : Dev nD) (i : grid0.Coords) (arg1 : Memref sig .tc .vmem S1x30x8192 .bf16) (harg1 : arg1.IsWhole) (arg2 : Memref sig .tc .vmem S1x30x8192 .bf16) (harg2 : arg2.IsWhole) (arg3 : Memref sig .tc .vmem S30x8192 .f32) (harg3 : arg3.IsWhole) (arg4 : Memref sig .tc .vmem S1x1024 .i32) (harg4 : arg4.IsWhole) (arg5 : Memref sig .tc .vmem S1x8192 .i32) (harg5 : arg5.IsWhole) (arg6 : Memref sig .tc .vmem S96x30 .bf16) (harg6 : arg6.IsWhole) (arg7 : Memref sig .tc .vmem S96x30 .f32) (harg7 : arg7.IsWhole) (arg8 : Memref sig .tc .vmem S32x30 .bf16) (harg8 : arg8.IsWhole) (arg9 : Memref sig .tc .vmem S32x30 .bf16) (harg9 : arg9.IsWhole) (arg10 : Memref sig .tc .vmem S32x1 .f32) (harg10 : arg10.IsWhole) (arg11 : Memref sig .tc .vmem S16x32 .f32) (harg11 : arg11.IsWhole) (arg12 : Memref sig .tc .vmem S16x1 .f32) (harg12 : arg12.IsWhole) (arg13 : Memref sig .tc .vmem S1x16 .f32) (harg13 : arg13.IsWhole) (arg14 : Memref sig .tc .vmem S1x1 .f32) (harg14 : arg14.IsWhole) (arg15 : Memref sig .tc .vmem S40x30 .f32) (harg15 : arg15.IsWhole) (arg16 : Memref sig .tc .vmem S40x1 .f32) (harg16 : arg16.IsWhole) (arg17 : Memref sig .tc .vmem S1x40 .f32) (harg17 : arg17.IsWhole) (arg18 : Memref sig .tc .vmem S1x1 .f32) (harg18 : arg18.IsWhole) (arg19 : Memref sig .tc .vmem S1x30x8192 .bf16) (harg19 : arg19.IsWhole) (arg20 : Memref sig .tc .vmem S8x1024 .f32) (harg20 : arg20.IsWhole) (arg21 : Memref sig .tc .vmem S1x8192 .f32) (harg21 : arg21.IsWhole) (arg22 : Memref sig .tc .vmem S30x1024 .f32) (harg22 : arg22.IsWhole) (hc0 : ¬cond0_0 i)
    (x0 : Vec F S1x30x8192 .bf16) (x1 : Vec F S1x30x8192 .bf16) (x2 : Vec F S30x8192 .f32) (x3 : Vec F S1x1024 .i32) (x4 : Vec F S1x8192 .i32) (x5 : Vec F S96x30 .bf16) (x6 : Vec F S96x30 .f32) (x7 : Vec F S32x30 .bf16) (x8 : Vec F S32x30 .bf16) (x9 : Vec F S32x1 .f32) (x10 : Vec F S16x32 .f32) (x11 : Vec F S16x1 .f32) (x12 : Vec F S1x16 .f32) (x13 : Vec F S1x1 .f32) (x14 : Vec F S40x30 .f32) (x15 : Vec F S40x1 .f32) (x16 : Vec F S1x40 .f32) (x17 : Vec F S1x1 .f32) (xo20 : Vec F S1x8192 .f32) (xs0 : Vec F S30x1024 .f32) : Vec F S30x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo20 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x30x8192 .bf16 × Vec F S8x1024 .f32 × Vec F S1x8192 .f32 × Vec F S30x1024 .f32
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩))
  | n + 1, hn =>
    if h0 : (n + 1) % 25 = 0 then
      (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩))
    else
      (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 25 = 0) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 25 = 0) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

/-- The scratch before the first grid point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨_ + 21, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What a grid point leaves in window 1. -/
theorem after0_1 (c : Dev nD) (t : Fin cfg0.N) : (dats m 0 c).after 1 t = iblk m c 1 t := by dsimp only [dats]
/-- What a grid point leaves in window 2. -/
theorem after0_2 (c : Dev nD) (t : Fin cfg0.N) : (dats m 0 c).after 2 t = iblk m c 2 t := by dsimp only [dats]
/-- What a grid point leaves in window 3. -/
theorem after0_3 (c : Dev nD) (t : Fin cfg0.N) : (dats m 0 c).after 3 t = iblk m c 3 t := by dsimp only [dats]
/-- What a grid point leaves in window 4. -/
theorem after0_4 (c : Dev nD) (t : Fin cfg0.N) : (dats m 0 c).after 4 t = iblk m c 4 t := by dsimp only [dats]
/-- What a grid point leaves in window 5. -/
theorem after0_5 (c : Dev nD) (t : Fin cfg0.N) : (dats m 0 c).after 5 t = iblk m c 5 t := by dsimp only [dats]
/-- What a grid point leaves in window 6. -/
theorem after0_6 (c : Dev nD) (t : Fin cfg0.N) : (dats m 0 c).after 6 t = iblk m c 6 t := by dsimp only [dats]
/-- What a grid point leaves in window 7. -/
theorem after0_7 (c : Dev nD) (t : Fin cfg0.N) : (dats m 0 c).after 7 t = iblk m c 7 t := by dsimp only [dats]
/-- What a grid point leaves in window 8. -/
theorem after0_8 (c : Dev nD) (t : Fin cfg0.N) : (dats m 0 c).after 8 t = iblk m c 8 t := by dsimp only [dats]
/-- What a grid point leaves in window 9. -/
theorem after0_9 (c : Dev nD) (t : Fin cfg0.N) : (dats m 0 c).after 9 t = iblk m c 9 t := by dsimp only [dats]
/-- What a grid point leaves in window 10. -/
theorem after0_10 (c : Dev nD) (t : Fin cfg0.N) : (dats m 0 c).after 10 t = iblk m c 10 t := by dsimp only [dats]
/-- What a grid point leaves in window 11. -/
theorem after0_11 (c : Dev nD) (t : Fin cfg0.N) : (dats m 0 c).after 11 t = iblk m c 11 t := by dsimp only [dats]
/-- What a grid point leaves in window 12. -/
theorem after0_12 (c : Dev nD) (t : Fin cfg0.N) : (dats m 0 c).after 12 t = iblk m c 12 t := by dsimp only [dats]
/-- What a grid point leaves in window 13. -/
theorem after0_13 (c : Dev nD) (t : Fin cfg0.N) : (dats m 0 c).after 13 t = iblk m c 13 t := by dsimp only [dats]
/-- What a grid point leaves in window 14. -/
theorem after0_14 (c : Dev nD) (t : Fin cfg0.N) : (dats m 0 c).after 14 t = iblk m c 14 t := by dsimp only [dats]
/-- What a grid point leaves in window 15. -/
theorem after0_15 (c : Dev nD) (t : Fin cfg0.N) : (dats m 0 c).after 15 t = iblk m c 15 t := by dsimp only [dats]
/-- What a grid point leaves in window 16. -/
theorem after0_16 (c : Dev nD) (t : Fin cfg0.N) : (dats m 0 c).after 16 t = iblk m c 16 t := by dsimp only [dats]
/-- What a grid point leaves in window 17. -/
theorem after0_17 (c : Dev nD) (t : Fin cfg0.N) : (dats m 0 c).after 17 t = iblk m c 17 t := by dsimp only [dats]
/-- What a grid point leaves in window 18. -/
theorem after0_18 (c : Dev nD) (t : Fin cfg0.N) : (dats m 0 c).after 18 t = (outsAt0 m c t.val t.isLt).1 := by dsimp only [dats]
/-- What a grid point leaves in window 19. -/
theorem after0_19 (c : Dev nD) (t : Fin cfg0.N) : (dats m 0 c).after 19 t = (outsAt0 m c t.val t.isLt).2.1 := by dsimp only [dats]
/-- What a grid point leaves in window 20. -/
theorem after0_20 (c : Dev nD) (t : Fin cfg0.N) : (dats m 0 c).after 20 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What a grid point finds in window 1. -/
theorem before0_1 (c : Dev nD) (t : Fin cfg0.N) (d) : (dats m 0 c).before 1 t d = iblk m c 1 t :=
  before0_1_of m (dats m 0 c) (A_eq m c 1) (after0_1 m c) t d
/-- What a grid point finds in window 2. -/
theorem before0_2 (c : Dev nD) (t : Fin cfg0.N) (d) : (dats m 0 c).before 2 t d = iblk m c 2 t :=
  before0_2_of m (dats m 0 c) (A_eq m c 2) (after0_2 m c) t d
/-- What a grid point finds in window 3. -/
theorem before0_3 (c : Dev nD) (t : Fin cfg0.N) (d) : (dats m 0 c).before 3 t d = iblk m c 3 t :=
  before0_3_of m (dats m 0 c) (A_eq m c 3) (after0_3 m c) t d
/-- What a grid point finds in window 4. -/
theorem before0_4 (c : Dev nD) (t : Fin cfg0.N) (d) : (dats m 0 c).before 4 t d = iblk m c 4 t :=
  before0_4_of m (dats m 0 c) (A_eq m c 4) (after0_4 m c) t d
/-- What a grid point finds in window 5. -/
theorem before0_5 (c : Dev nD) (t : Fin cfg0.N) (d) : (dats m 0 c).before 5 t d = iblk m c 5 t :=
  before0_5_of m (dats m 0 c) (A_eq m c 5) (after0_5 m c) t d
/-- What a grid point finds in window 6. -/
theorem before0_6 (c : Dev nD) (t : Fin cfg0.N) (d) : (dats m 0 c).before 6 t d = iblk m c 6 t :=
  before0_6_of m (dats m 0 c) (A_eq m c 6) (after0_6 m c) t d
/-- What a grid point finds in window 7. -/
theorem before0_7 (c : Dev nD) (t : Fin cfg0.N) (d) : (dats m 0 c).before 7 t d = iblk m c 7 t :=
  before0_7_of m (dats m 0 c) (A_eq m c 7) (after0_7 m c) t d
/-- What a grid point finds in window 8. -/
theorem before0_8 (c : Dev nD) (t : Fin cfg0.N) (d) : (dats m 0 c).before 8 t d = iblk m c 8 t :=
  before0_8_of m (dats m 0 c) (A_eq m c 8) (after0_8 m c) t d
/-- What a grid point finds in window 9. -/
theorem before0_9 (c : Dev nD) (t : Fin cfg0.N) (d) : (dats m 0 c).before 9 t d = iblk m c 9 t :=
  before0_9_of m (dats m 0 c) (A_eq m c 9) (after0_9 m c) t d
/-- What a grid point finds in window 10. -/
theorem before0_10 (c : Dev nD) (t : Fin cfg0.N) (d) : (dats m 0 c).before 10 t d = iblk m c 10 t :=
  before0_10_of m (dats m 0 c) (A_eq m c 10) (after0_10 m c) t d
/-- What a grid point finds in window 11. -/
theorem before0_11 (c : Dev nD) (t : Fin cfg0.N) (d) : (dats m 0 c).before 11 t d = iblk m c 11 t :=
  before0_11_of m (dats m 0 c) (A_eq m c 11) (after0_11 m c) t d
/-- What a grid point finds in window 12. -/
theorem before0_12 (c : Dev nD) (t : Fin cfg0.N) (d) : (dats m 0 c).before 12 t d = iblk m c 12 t :=
  before0_12_of m (dats m 0 c) (A_eq m c 12) (after0_12 m c) t d
/-- What a grid point finds in window 13. -/
theorem before0_13 (c : Dev nD) (t : Fin cfg0.N) (d) : (dats m 0 c).before 13 t d = iblk m c 13 t :=
  before0_13_of m (dats m 0 c) (A_eq m c 13) (after0_13 m c) t d
/-- What a grid point finds in window 14. -/
theorem before0_14 (c : Dev nD) (t : Fin cfg0.N) (d) : (dats m 0 c).before 14 t d = iblk m c 14 t :=
  before0_14_of m (dats m 0 c) (A_eq m c 14) (after0_14 m c) t d
/-- What a grid point finds in window 15. -/
theorem before0_15 (c : Dev nD) (t : Fin cfg0.N) (d) : (dats m 0 c).before 15 t d = iblk m c 15 t :=
  before0_15_of m (dats m 0 c) (A_eq m c 15) (after0_15 m c) t d
/-- What a grid point finds in window 16. -/
theorem before0_16 (c : Dev nD) (t : Fin cfg0.N) (d) : (dats m 0 c).before 16 t d = iblk m c 16 t :=
  before0_16_of m (dats m 0 c) (A_eq m c 16) (after0_16 m c) t d
/-- What a grid point finds in window 17. -/
theorem before0_17 (c : Dev nD) (t : Fin cfg0.N) (d) : (dats m 0 c).before 17 t d = iblk m c 17 t :=
  before0_17_of m (dats m 0 c) (A_eq m c 17) (after0_17 m c) t d
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 25 = 0) (d) :
    (dats m 0 c).before 20 t d = (outsAt0 m c (t.val - 1) (Nat.lt_of_le_of_lt (Nat.sub_le _ _) t.isLt)).2.2.1 := by
  have hN : t.val < 25 := lt_of_lt_of_eq t.isLt (show cfg0.N = 25 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 25 := lt_of_lt_of_eq t.isLt (show cfg0.N = 25 from N_0)
  by_cases h0 : t.val % 25 = 0
  · by_cases hz : t.val = 0
    · rw [PhiS_castSucc m c t, PhiS_zero m c _ _ hz, PhiA0_eq]
      rw [outsAt0_A m c t h0]
      unfold out0_A_18 out0_A_19 out0_A_20 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [HS0]; · iexact HS0
      iintro ⟨H0, H1, H2, H3, H4, H5, H6, H7, H8, H9, H10, H11, H12, H13, H14, H15, H16, H17, ⟨%e18, H18⟩, ⟨%e19, H19⟩, ⟨%e20, H20⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 25 := lt_of_lt_of_eq t.isLt (show cfg0.N = 25 from N_0); omega
  · by_cases hz : t.val = 0
    · exfalso; have hN : t.val < 25 := lt_of_lt_of_eq t.isLt (show cfg0.N = 25 from N_0); omega
    · rw [PhiS_castSucc m c t, PhiS_pos m c _ _ hz]
      rw [outsAt0_B m c t h0]
      simp only [before0_20_B m c t h0]
      unfold out0_B_18 out0_B_19 out0_B_20 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexact H20
      isplitl [HS0]; · iexact HS0
      iintro ⟨H0, H1, H2, H3, H4, H5, H6, H7, H8, H9, H10, H11, H12, H13, H14, H15, H16, H17, ⟨%e18, H18⟩, ⟨%e19, H19⟩, ⟨%e20, H20⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.KI.Value.lean ====
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t.val t.isLt).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 25 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0_A m c t h0]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 25 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed18, outsAt0_B m c t h0]

/-- The index map sends distinct grid points to distinct block indices (decided over the 25 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S25x30x8192.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 1), read through the window's block. -/
theorem flushed19 (c : Dev nD) (t : Fin cfg0.N) :
    (dats m 0 c).flushed 19 t = (cfg0.win 19).cut (grid0.coords t) ((outsAt0 m c t.val t.isLt).2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — by the frame's rewriting lemma for the case. -/
theorem flushed19_A (c : Dev nD) (t : Fin cfg0.N) (h0 : t.val % 25 = 0) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0_A m c t h0]

/-- … so at a point where case B runs, what its write-back would write is that case's NAMED TERM for the window (`Gen.out0_B_19`: the pieces
    its run found, read back) at the point's memrefs and input blocks, and for an output the case reads back what the point before left (`Gen.outsAt0` at `t - 1`) — by the frame's rewriting lemma for the case. -/
theorem flushed19_B (c : Dev nD) (t : Fin cfg0.N) (h0 : ¬t.val % 25 = 0) :
    (dats m 0 c).flushed 19 t = (cfg0.win 19).cut (grid0.coords t) (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed19, outsAt0_B m c t h0]

/-- The index map sends distinct grid points to distinct block indices (decided over the 25 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S200x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 2), read through the window's block. -/
theorem flushed20 (c : Dev nD) (t : Fin cfg0.N) :
    (dats m 0 c).flushed 20 t = (cfg0.win 20).cut (grid0.coords t) ((outsAt0 m c t.val t.isLt).2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — by the frame's rewriting lemma for the case. -/
theorem flushed20_A (c : Dev nD) (t : Fin cfg0.N) (h0 : t.val % 25 = 0) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0_A m c t h0]

/-- … so at a point where case B runs, what its write-back would write is that case's NAMED TERM for the window (`Gen.out0_B_20`: the pieces
    its run found, read back) at the point's memrefs and input blocks, and for an output the case reads back what the point before left (`Gen.outsAt0` at `t - 1`) — by the frame's rewriting lemma for the case. -/
theorem flushed20_B (c : Dev nD) (t : Fin cfg0.N) (h0 : ¬t.val % 25 = 0) :
    (dats m 0 c).flushed 20 t = (cfg0.win 20).cut (grid0.coords t) (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed20, outsAt0_B m c t h0]

-- no `blocks20`: window 20's index map revisits a block index, or its points could not be enumerated here;
-- the final array is still the frame's `arrAt`, to read with Lib/Pipeline/Value.lean's lemmas by hand

/-- An index that no flushing point's block covers keeps output window 20's array contents at region entry. -/
theorem entry20 (c : Dev nD) (i : S1x8192.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v44_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v44_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v44_2) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v44_0) = (dats m 0 c).arrAt 18 cfg0.N
      ∧ r.2.mem ((c : Thread nD τ).loc main_v44_1) = (dats m 0 c).arrAt 19 cfg0.N
      ∧ r.2.mem ((c : Thread nD τ).loc main_v44_2) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S30x1024 .f32) : Vec F S30x1024 .f32 :=
  if h0 : n % 25 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 0 HOLDS after point `t`: the fold of its run up to `t`, from the reset at the run's first point
    `25·(t / 25)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (25 * (t.val / 25)) (t.val % 25)
      (by have h1 := t.isLt; have h2 := Nat.div_add_mod t.val 25; omega) :=
  Pipeline.eq_accAt_of_mod (fun n h => (outsAt0 m c n h).2.2.2) 25 (fun n h => scAt0_0 m c n h (VS0_0.read (Elt F) VS0_0.junk)) (scAt0_0 m c)
    (fun n h hn => by
      have hN := lt_of_lt_of_eq h (show cfg0.N = 25 from N_0)
      by_cases h0 : n % 25 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 25 from N_0)
      by_cases h0 : (n + 1) % 25 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 25 from N_0)
  have hd : n / 25 = 0 := Nat.div_eq_of_lt hN
  have hm : n % 25 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x30x8192 .bf16 × Vec F S8x1024 .f32 × Vec F S1x8192 .f32 × Vec F S30x1024 .f32 :=
  ((VO0_18.read (Elt F) VO0_18.junk, VO0_19.read (Elt F) VO0_19.junk, VO0_20.read (Elt F) VO0_20.junk, VS0_0.read (Elt F) VS0_0.junk) : Vec F S1x30x8192 .bf16 × Vec F S8x1024 .f32 × Vec F S1x8192 .f32 × Vec F S30x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x30x8192 .bf16 × Vec F S8x1024 .f32 × Vec F S1x8192 .f32 × Vec F S30x1024 .f32) : Vec F S1x30x8192 .bf16 × Vec F S8x1024 .f32 × Vec F S1x8192 .f32 × Vec F S30x1024 .f32 :=
  if h0 : n % 25 = 0 then
    (out0_A_18 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), out0_A_19 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), out0_A_20 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)))
  else
    (out0_B_18 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.2.1 acc.2.2.2, out0_B_19 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.2.1 acc.2.2.2, out0_B_20 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.2.1 acc.2.2.2)

/-- `stAt0` at a point of case A: that case's contents. -/
theorem stAt0_A (c : Dev nD) (t : Fin cfg0.N) (acc : Vec F S1x30x8192 .bf16 × Vec F S8x1024 .f32 × Vec F S1x8192 .f32 × Vec F S30x1024 .f32) (h0 : t.val % 25 = 0) :
    stAt0 m c t.val t.isLt acc = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) :=
  (dif_pos h0).trans rfl

/-- `stAt0` at a point of case B: that case's contents, over `acc`. -/
theorem stAt0_B (c : Dev nD) (t : Fin cfg0.N) (acc : Vec F S1x30x8192 .bf16 × Vec F S8x1024 .f32 × Vec F S1x8192 .f32 × Vec F S30x1024 .f32) (h0 : ¬t.val % 25 = 0) :
    stAt0 m c t.val t.isLt acc = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.2.1 acc.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.2.1 acc.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 25 from N_0)
  have e := Pipeline.eq_accAt_of_mod (fun n h => outsAt0 m c n h) 25 (fun n h => stAt0 m c n h junk0) (stAt0 m c)
    (fun n h _ => by
      have hN := lt_of_lt_of_eq h (show cfg0.N = 25 from N_0)
      obtain rfl : n = 0 := by omega
      exact outsAt0_zero m c h)
    (fun n h _ => outsAt0_succ m c n h)
    (by decide) n hn (by have := Nat.div_add_mod n 25; omega)
  have hd : n / 25 = 0 := Nat.div_eq_of_lt hN
  have hm : n % 25 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 18 -/

/-- The block of the array that holds index `i`, numbered in the order the points write the blocks back (one per point),
    `i`'s place in it, and the point that writes it back. -/
abbrev run18Of (i : S25x30x8192.Idx) : ℕ := 1 * ((i 0).val / 1 - 0) + 1 * ((i 1).val / 30 - 0) + 1 * ((i 2).val / 8192 - 0)
set_option backward.proofsInPublic true in
abbrev loc18Of (i : S25x30x8192.Idx) : S1x30x8192.Idx := fun a => match a with
  | ⟨0, _⟩ => ⟨(i 0).val % 1, Nat.mod_lt _ (by decide)⟩
  | ⟨1, _⟩ => ⟨(i 1).val % 30, Nat.mod_lt _ (by decide)⟩
  | ⟨2, _⟩ => ⟨(i 2).val % 8192, Nat.mod_lt _ (by decide)⟩
abbrev pt18Of (i : S25x30x8192.Idx) : ℕ := run18Of i

/-- WHAT THE ARRAY ENDS HOLDING at index `i` inside the box the flushing blocks fill: output 18's component of the carried
    state's fold at the point that writes `i`'s block back, at `i`'s place in the block. `G18` states the array's contents
    only inside the box. -/
def G18 (c : Dev nD) : Buf (Elt F) ((c : Thread nD τ).loc main_v44_0) := fun i =>
  if h : pt18Of i < cfg0.N then
    (Pipeline.accAt (fun n h => stAt0 m c n h junk0) (stAt0 m c) 0 (pt18Of i) (by omega)).1 (loc18Of i)
  else V m c (Pipeline.arrRef spec0 18) i

/-- The printed index map, decided over the grid: output window 18's block indices stay in the box, and the block number
    read off them is the point's (`t`). -/
theorem idx_facts18 : ∀ t : Fin cfg0.N, 0 ≤ win0_18.index t (0 : Fin 3) ∧ win0_18.index t (0 : Fin 3) ≤ 24
    ∧ 0 ≤ win0_18.index t (1 : Fin 3) ∧ win0_18.index t (1 : Fin 3) ≤ 0
    ∧ 0 ≤ win0_18.index t (2 : Fin 3) ∧ win0_18.index t (2 : Fin 3) ≤ 0
    ∧ 1 * (win0_18.index t (0 : Fin 3) - 0) + 1 * (win0_18.index t (1 : Fin 3) - 0) + 1 * (win0_18.index t (2 : Fin 3) - 0) = t.val :=
  (by decide +kernel : ∀ t : Fin grid0.N, _)

/-- Every block of the box is SOME flushing point's: `onto18Pt`, the point that writes back the block at place `q` of the box. -/
abbrev onto18Pt (q0 : Fin 25) (q1 : Fin 1) (q2 : Fin 1) : Fin grid0.N :=
  ⟨1 * q0.val + 1 * q1.val + 1 * q2.val, lt_of_lt_of_eq (by omega) N_0.symm⟩
/-- Every block of output window 18 is the block of some grid point. -/
theorem idx_onto18 : ∀ (q0 : Fin 25) (q1 : Fin 1) (q2 : Fin 1), ∃ t : Fin cfg0.N, (cfg0.win 18).flush t = true ∧ win0_18.index t = ![q0.val + 0, q1.val + 0, q2.val + 0] :=
  fun q0 q1 q2 => ⟨onto18Pt q0 q1 q2, (by decide +kernel : ∀ (q0 : Fin 25) (q1 : Fin 1) (q2 : Fin 1), win0_18.flush (onto18Pt q0 q1 q2) = true ∧ win0_18.index (onto18Pt q0 q1 q2) = ![q0.val + 0, q1.val + 0, q2.val + 0]) q0 q1 q2⟩

/-- WHAT A FLUSHING POINT `t` WRITES BACK is block `t` of `G18`: output 18's component of the fold up to `t`. -/
theorem flushed18_eq (c : Dev nD) (t : Fin cfg0.N) (hf : (cfg0.win 18).flush t = true) :
    (dats m 0 c).flushed 18 t = ((cfg0.win 18).blk t).view.read (Elt F) (G18 m c) := by
  show (cfg0.win 18).cut (grid0.coords t) ((dats m 0 c).after 18 t) = _
  rw [after0_18, outsAt0_sweep]
  obtain ⟨e0, e1, e2, e3⟩ := idx_facts18 t
  funext y
  have hy0 : (y 0).val < 1 := (y 0).isLt
  have hy1 : (y 1).val < 30 := (y 1).isLt
  have hy2 : (y 2).val < 8192 := (y 2).isLt
  have hb0 : (((cfg0.win 18).blk t).view.emb y 0).val = win0_18.index t (0 : Fin 3) * 1 + 1 * (y 0).val := rfl
  have hb1 : (((cfg0.win 18).blk t).view.emb y 1).val = win0_18.index t (1 : Fin 3) * 30 + 1 * (y 1).val := rfl
  have hb2 : (((cfg0.win 18).blk t).view.emb y 2).val = win0_18.index t (2 : Fin 3) * 8192 + 1 * (y 2).val := rfl
  have hr : run18Of (((cfg0.win 18).blk t).view.emb y) = t.val := by
    show 1 * ((((cfg0.win 18).blk t).view.emb y 0).val / 1 - 0) + 1 * ((((cfg0.win 18).blk t).view.emb y 1).val / 30 - 0) + 1 * ((((cfg0.win 18).blk t).view.emb y 2).val / 8192 - 0) = _
    rw [hb0, hb1, hb2]
    rw [show (win0_18.index t (0 : Fin 3) * 1 + 1 * (y 0).val) / 1 = win0_18.index t (0 : Fin 3) from by omega]; rw [show (win0_18.index t (1 : Fin 3) * 30 + 1 * (y 1).val) / 30 = win0_18.index t (1 : Fin 3) from by omega]; rw [show (win0_18.index t (2 : Fin 3) * 8192 + 1 * (y 2).val) / 8192 = win0_18.index t (2 : Fin 3) from by omega]
    omega
  have hl : loc18Of (((cfg0.win 18).blk t).view.emb y) = (cfg0.win 18).xinj (grid0.coords t) y := by
    funext a; apply Fin.ext
    match a with
    | ⟨0, _⟩ => show (((cfg0.win 18).blk t).view.emb y 0).val % 1 = (y 0).val; rw [hb0]; omega
    | ⟨1, _⟩ => show (((cfg0.win 18).blk t).view.emb y 1).val % 30 = (y 1).val; rw [hb1]; omega
    | ⟨2, _⟩ => show (((cfg0.win 18).blk t).view.emb y 2).val % 8192 = (y 2).val; rw [hb2]; omega
  have hp : pt18Of (((cfg0.win 18).blk t).view.emb y) = t.val := by
    exact hr
  show (Pipeline.accAt (fun n h => stAt0 m c n h junk0) (stAt0 m c) 0 t.val _).1 ((cfg0.win 18).xinj (grid0.coords t) y) = G18 m c (((cfg0.win 18).blk t).view.emb y)
  unfold G18
  rw [dif_pos (by rw [hp]; exact t.isLt), hl, fold0_congr m c _ _ _ _ hp.symm]

/-- An index of the array is in point `t`'s block iff each coordinate is in the block's range on its axis. -/
theorem mem_blk18 (t : Fin cfg0.N) (i : S25x30x8192.Idx) :
    i ∈ ((cfg0.win 18).blk t).view.set ↔ ∀ a : Fin 3, win0_18.index t a * S1x30x8192.size a ≤ (i a).val ∧ (i a).val < win0_18.index t a * S1x30x8192.size a + S1x30x8192.size a := by
  show i ∈ ((View.whole main_v44_0).slice (win0_18.rect t)).set ↔ _
  rw [View.set_slice_whole, Rect.mem_set_unit]
  exact Iff.rfl

/-- THE COVERED INDICES: in some flushing point's block iff inside the box those blocks fill. -/
theorem covered_iff18 (i : S25x30x8192.Idx) :
    (∃ t : Fin cfg0.N, (cfg0.win 18).flush t = true ∧ i ∈ ((cfg0.win 18).blk t).view.set) ↔ 0 ≤ (i 0).val ∧ (i 0).val < 25 ∧ 0 ≤ (i 1).val ∧ (i 1).val < 30 ∧ 0 ≤ (i 2).val ∧ (i 2).val < 8192 := by
  constructor
  · rintro ⟨t, -, hi⟩
    rw [mem_blk18] at hi
    have b0 : win0_18.index t (0 : Fin 3) * 1 ≤ (i 0).val ∧ (i 0).val < win0_18.index t (0 : Fin 3) * 1 + 1 := hi 0
    have b1 : win0_18.index t (1 : Fin 3) * 30 ≤ (i 1).val ∧ (i 1).val < win0_18.index t (1 : Fin 3) * 30 + 30 := hi 1
    have b2 : win0_18.index t (2 : Fin 3) * 8192 ≤ (i 2).val ∧ (i 2).val < win0_18.index t (2 : Fin 3) * 8192 + 8192 := hi 2
    obtain ⟨e0, e1, e2, e3⟩ := idx_facts18 t
    omega
  · intro h
    have hi0 : (i 0).val < 25 := (i 0).isLt
    have hi1 : (i 1).val < 30 := (i 1).isLt
    have hi2 : (i 2).val < 8192 := (i 2).isLt
    obtain ⟨t, hft, ht⟩ := idx_onto18 ⟨(i 0).val / 1 - 0, by omega⟩ ⟨(i 1).val / 30 - 0, by omega⟩ ⟨(i 2).val / 8192 - 0, by omega⟩
    have q0 : win0_18.index t (0 : Fin 3) = (i 0).val / 1 - 0 + 0 := congrFun ht 0
    have q1 : win0_18.index t (1 : Fin 3) = (i 1).val / 30 - 0 + 0 := congrFun ht 1
    have q2 : win0_18.index t (2 : Fin 3) = (i 2).val / 8192 - 0 + 0 := congrFun ht 2
    refine ⟨t, hft, ?_⟩
    rw [mem_blk18]
    intro a
    match a with
    | ⟨0, _⟩ => show win0_18.index t (0 : Fin 3) * 1 ≤ (i 0).val ∧ (i 0).val < win0_18.index t (0 : Fin 3) * 1 + 1; omega
    | ⟨1, _⟩ => show win0_18.index t (1 : Fin 3) * 30 ≤ (i 1).val ∧ (i 1).val < win0_18.index t (1 : Fin 3) * 30 + 30; omega
    | ⟨2, _⟩ => show win0_18.index t (2 : Fin 3) * 8192 ≤ (i 2).val ∧ (i 2).val < win0_18.index t (2 : Fin 3) * 8192 + 8192; omega

/-- THE ARRAY after the run: `G18` (the flushing blocks tile it). -/
theorem final18 (c : Dev nD) : (dats m 0 c).arrAt 18 cfg0.N = G18 m c :=
  (dats m 0 c).arrAt_eq_of_cover 18 _ (fun t hf => flushed18_eq m c t hf) (fun i => (covered_iff18 i).2 (by
    have h0 : (i 0).val < 25 := (i 0).isLt; have h1 : (i 1).val < 30 := (i 1).isLt; have h2 : (i 2).val < 8192 := (i 2).isLt; omega))

/-! ## Output window 19 -/

/-- The block of the array that holds index `i`, numbered in the order the points write the blocks back (one per point),
    `i`'s place in it, and the point that writes it back. -/
abbrev run19Of (i : S200x1024.Idx) : ℕ := 1 * ((i 0).val / 8 - 0) + 1 * ((i 1).val / 1024 - 0)
set_option backward.proofsInPublic true in
abbrev loc19Of (i : S200x1024.Idx) : S8x1024.Idx := fun a => match a with
  | ⟨0, _⟩ => ⟨(i 0).val % 8, Nat.mod_lt _ (by decide)⟩
  | ⟨1, _⟩ => ⟨(i 1).val % 1024, Nat.mod_lt _ (by decide)⟩
abbrev pt19Of (i : S200x1024.Idx) : ℕ := run19Of i

/-- WHAT THE ARRAY ENDS HOLDING at index `i` inside the box the flushing blocks fill: output 19's component of the carried
    state's fold at the point that writes `i`'s block back, at `i`'s place in the block. `G19` states the array's contents
    only inside the box. -/
def G19 (c : Dev nD) : Buf (Elt F) ((c : Thread nD τ).loc main_v44_1) := fun i =>
  if h : pt19Of i < cfg0.N then
    (Pipeline.accAt (fun n h => stAt0 m c n h junk0) (stAt0 m c) 0 (pt19Of i) (by omega)).2.1 (loc19Of i)
  else V m c (Pipeline.arrRef spec0 19) i

/-- The printed index map, decided over the grid: output window 19's block indices stay in the box, and the block number
    read off them is the point's (`t`). -/
theorem idx_facts19 : ∀ t : Fin cfg0.N, 0 ≤ win0_19.index t (0 : Fin 2) ∧ win0_19.index t (0 : Fin 2) ≤ 24
    ∧ 0 ≤ win0_19.index t (1 : Fin 2) ∧ win0_19.index t (1 : Fin 2) ≤ 0
    ∧ 1 * (win0_19.index t (0 : Fin 2) - 0) + 1 * (win0_19.index t (1 : Fin 2) - 0) = t.val :=
  (by decide +kernel : ∀ t : Fin grid0.N, _)

/-- Every block of the box is SOME flushing point's: `onto19Pt`, the point that writes back the block at place `q` of the box. -/
abbrev onto19Pt (q0 : Fin 25) (q1 : Fin 1) : Fin grid0.N :=
  ⟨1 * q0.val + 1 * q1.val, lt_of_lt_of_eq (by omega) N_0.symm⟩
/-- Every block of output window 19 is the block of some grid point. -/
theorem idx_onto19 : ∀ (q0 : Fin 25) (q1 : Fin 1), ∃ t : Fin cfg0.N, (cfg0.win 19).flush t = true ∧ win0_19.index t = ![q0.val + 0, q1.val + 0] :=
  fun q0 q1 => ⟨onto19Pt q0 q1, (by decide +kernel : ∀ (q0 : Fin 25) (q1 : Fin 1), win0_19.flush (onto19Pt q0 q1) = true ∧ win0_19.index (onto19Pt q0 q1) = ![q0.val + 0, q1.val + 0]) q0 q1⟩

/-- WHAT A FLUSHING POINT `t` WRITES BACK is block `t` of `G19`: output 19's component of the fold up to `t`. -/
theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19, outsAt0_sweep]
  obtain ⟨e0, e1, e2⟩ := idx_facts19 t
  funext y
  have hy0 : (y 0).val < 8 := (y 0).isLt
  have hy1 : (y 1).val < 1024 := (y 1).isLt
  have hb0 : (((cfg0.win 19).blk t).view.emb y 0).val = win0_19.index t (0 : Fin 2) * 8 + 1 * (y 0).val := rfl
  have hb1 : (((cfg0.win 19).blk t).view.emb y 1).val = win0_19.index t (1 : Fin 2) * 1024 + 1 * (y 1).val := rfl
  have hr : run19Of (((cfg0.win 19).blk t).view.emb y) = t.val := by
    show 1 * ((((cfg0.win 19).blk t).view.emb y 0).val / 8 - 0) + 1 * ((((cfg0.win 19).blk t).view.emb y 1).val / 1024 - 0) = _
    rw [hb0, hb1]
    rw [show (win0_19.index t (0 : Fin 2) * 8 + 1 * (y 0).val) / 8 = win0_19.index t (0 : Fin 2) from by omega]; rw [show (win0_19.index t (1 : Fin 2) * 1024 + 1 * (y 1).val) / 1024 = win0_19.index t (1 : Fin 2) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 8 = (y 0).val; rw [hb0]; omega
    | ⟨1, _⟩ => show (((cfg0.win 19).blk t).view.emb y 1).val % 1024 = (y 1).val; rw [hb1]; omega
  have hp : pt19Of (((cfg0.win 19).blk t).view.emb y) = t.val := by
    exact hr
  show (Pipeline.accAt (fun n h => stAt0 m c n h junk0) (stAt0 m c) 0 t.val _).2.1 ((cfg0.win 19).xinj (grid0.coords t) y) = G19 m c (((cfg0.win 19).blk t).view.emb y)
  unfold G19
  rw [dif_pos (by rw [hp]; exact t.isLt), hl, fold0_congr m c _ _ _ _ hp.symm]

/-- An index of the array is in point `t`'s block iff each coordinate is in the block's range on its axis. -/
theorem mem_blk19 (t : Fin cfg0.N) (i : S200x1024.Idx) :
    i ∈ ((cfg0.win 19).blk t).view.set ↔ ∀ a : Fin 2, win0_19.index t a * S8x1024.size a ≤ (i a).val ∧ (i a).val < win0_19.index t a * S8x1024.size a + S8x1024.size a := by
  show i ∈ ((View.whole main_v44_1).slice (win0_19.rect t)).set ↔ _
  rw [View.set_slice_whole, Rect.mem_set_unit]
  exact Iff.rfl

/-- THE COVERED INDICES: in some flushing point's block iff inside the box those blocks fill. -/
theorem covered_iff19 (i : S200x1024.Idx) :
    (∃ t : Fin cfg0.N, (cfg0.win 19).flush t = true ∧ i ∈ ((cfg0.win 19).blk t).view.set) ↔ 0 ≤ (i 0).val ∧ (i 0).val < 200 ∧ 0 ≤ (i 1).val ∧ (i 1).val < 1024 := by
  constructor
  · rintro ⟨t, -, hi⟩
    rw [mem_blk19] at hi
    have b0 : win0_19.index t (0 : Fin 2) * 8 ≤ (i 0).val ∧ (i 0).val < win0_19.index t (0 : Fin 2) * 8 + 8 := hi 0
    have b1 : win0_19.index t (1 : Fin 2) * 1024 ≤ (i 1).val ∧ (i 1).val < win0_19.index t (1 : Fin 2) * 1024 + 1024 := hi 1
    obtain ⟨e0, e1, e2⟩ := idx_facts19 t
    omega
  · intro h
    have hi0 : (i 0).val < 200 := (i 0).isLt
    have hi1 : (i 1).val < 1024 := (i 1).isLt
    obtain ⟨t, hft, ht⟩ := idx_onto19 ⟨(i 0).val / 8 - 0, by omega⟩ ⟨(i 1).val / 1024 - 0, by omega⟩
    have q0 : win0_19.index t (0 : Fin 2) = (i 0).val / 8 - 0 + 0 := congrFun ht 0
    have q1 : win0_19.index t (1 : Fin 2) = (i 1).val / 1024 - 0 + 0 := congrFun ht 1
    refine ⟨t, hft, ?_⟩
    rw [mem_blk19]
    intro a
    match a with
    | ⟨0, _⟩ => show win0_19.index t (0 : Fin 2) * 8 ≤ (i 0).val ∧ (i 0).val < win0_19.index t (0 : Fin 2) * 8 + 8; omega
    | ⟨1, _⟩ => show win0_19.index t (1 : Fin 2) * 1024 ≤ (i 1).val ∧ (i 1).val < win0_19.index t (1 : Fin 2) * 1024 + 1024; omega

/-- THE ARRAY after the run: `G19` (the flushing blocks tile it). -/
theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 200 := (i 0).isLt; have h1 : (i 1).val < 1024 := (i 1).isLt; omega))

/-! ## Output window 20 -/

/-- The block of the array that holds index `i`, numbered in the order the points write the blocks back (one every 25 points),
    `i`'s place in it, and the point that writes it back (the last of its 25). -/
abbrev run20Of (i : S1x8192.Idx) : ℕ := 1 * ((i 0).val / 1 - 0) + 1 * ((i 1).val / 8192 - 0)
set_option backward.proofsInPublic true in
abbrev loc20Of (i : S1x8192.Idx) : S1x8192.Idx := fun a => match a with
  | ⟨0, _⟩ => ⟨(i 0).val % 1, Nat.mod_lt _ (by decide)⟩
  | ⟨1, _⟩ => ⟨(i 1).val % 8192, Nat.mod_lt _ (by decide)⟩
abbrev pt20Of (i : S1x8192.Idx) : ℕ := 25 * run20Of i + 24

/-- WHAT THE ARRAY ENDS HOLDING at index `i` inside the box the flushing blocks fill: output 20's component of the carried
    state's fold at the point that writes `i`'s block back, at `i`'s place in the block. `G20` states the array's contents
    only inside the box. -/
def G20 (c : Dev nD) : Buf (Elt F) ((c : Thread nD τ).loc main_v44_2) := fun i =>
  if h : pt20Of i < cfg0.N then
    (Pipeline.accAt (fun n h => stAt0 m c n h junk0) (stAt0 m c) 0 (pt20Of i) (by omega)).2.2.1 (loc20Of i)
  else V m c (Pipeline.arrRef spec0 20) i

/-- The printed index map, decided over the grid: output window 20's block indices stay in the box, and the block number
    read off them is the point's (`t / 25`). -/
theorem idx_facts20 : ∀ t : Fin cfg0.N, 0 ≤ win0_20.index t (0 : Fin 2) ∧ win0_20.index t (0 : Fin 2) ≤ 0
    ∧ 0 ≤ win0_20.index t (1 : Fin 2) ∧ win0_20.index t (1 : Fin 2) ≤ 0
    ∧ 1 * (win0_20.index t (0 : Fin 2) - 0) + 1 * (win0_20.index t (1 : Fin 2) - 0) = t.val / 25 :=
  (by decide +kernel : ∀ t : Fin grid0.N, _)

/-- Every block of the box is SOME flushing point's: `onto20Pt`, the point that writes back the block at place `q` of the box (the last point of its run). -/
abbrev onto20Pt (q0 : Fin 1) (q1 : Fin 1) : Fin grid0.N :=
  ⟨25 * (1 * q0.val + 1 * q1.val) + 24, lt_of_lt_of_eq (by omega) N_0.symm⟩
/-- Every block of output window 20 is the block of some grid point. -/
theorem idx_onto20 : ∀ (q0 : Fin 1) (q1 : Fin 1), ∃ t : Fin cfg0.N, (cfg0.win 20).flush t = true ∧ win0_20.index t = ![q0.val + 0, q1.val + 0] :=
  fun q0 q1 => ⟨onto20Pt q0 q1, (by decide +kernel : ∀ (q0 : Fin 1) (q1 : Fin 1), win0_20.flush (onto20Pt q0 q1) = true ∧ win0_20.index (onto20Pt q0 q1) = ![q0.val + 0, q1.val + 0]) q0 q1⟩

/-- WHAT A FLUSHING POINT `t` WRITES BACK is block `t` of `G20`: output 20's component of the fold up to `t`. -/
theorem flushed20_eq (c : Dev nD) (t : Fin cfg0.N) (hf : (cfg0.win 20).flush t = true) :
    (dats m 0 c).flushed 20 t = ((cfg0.win 20).blk t).view.read (Elt F) (G20 m c) := by
  show (cfg0.win 20).cut (grid0.coords t) ((dats m 0 c).after 20 t) = _
  rw [after0_20, outsAt0_sweep]
  have hm : t.val % 25 = 24 := (flush0_20 t).mp hf
  obtain ⟨e0, e1, e2⟩ := idx_facts20 t
  funext y
  have hy0 : (y 0).val < 1 := (y 0).isLt
  have hy1 : (y 1).val < 8192 := (y 1).isLt
  have hb0 : (((cfg0.win 20).blk t).view.emb y 0).val = win0_20.index t (0 : Fin 2) * 1 + 1 * (y 0).val := rfl
  have hb1 : (((cfg0.win 20).blk t).view.emb y 1).val = win0_20.index t (1 : Fin 2) * 8192 + 1 * (y 1).val := rfl
  have hr : run20Of (((cfg0.win 20).blk t).view.emb y) = t.val / 25 := by
    show 1 * ((((cfg0.win 20).blk t).view.emb y 0).val / 1 - 0) + 1 * ((((cfg0.win 20).blk t).view.emb y 1).val / 8192 - 0) = _
    rw [hb0, hb1]
    rw [show (win0_20.index t (0 : Fin 2) * 1 + 1 * (y 0).val) / 1 = win0_20.index t (0 : Fin 2) from by omega]; rw [show (win0_20.index t (1 : Fin 2) * 8192 + 1 * (y 1).val) / 8192 = win0_20.index t (1 : Fin 2) from by omega]
    omega
  have hl : loc20Of (((cfg0.win 20).blk t).view.emb y) = (cfg0.win 20).xinj (grid0.coords t) y := by
    funext a; apply Fin.ext
    match a with
    | ⟨0, _⟩ => show (((cfg0.win 20).blk t).view.emb y 0).val % 1 = (y 0).val; rw [hb0]; omega
    | ⟨1, _⟩ => show (((cfg0.win 20).blk t).view.emb y 1).val % 8192 = (y 1).val; rw [hb1]; omega
  have hp : pt20Of (((cfg0.win 20).blk t).view.emb y) = t.val := by
    show 25 * run20Of (((cfg0.win 20).blk t).view.emb y) + 24 = _
    rw [hr]; have := Nat.div_add_mod t.val 25; omega
  show (Pipeline.accAt (fun n h => stAt0 m c n h junk0) (stAt0 m c) 0 t.val _).2.2.1 ((cfg0.win 20).xinj (grid0.coords t) y) = G20 m c (((cfg0.win 20).blk t).view.emb y)
  unfold G20
  rw [dif_pos (by rw [hp]; exact t.isLt), hl, fold0_congr m c _ _ _ _ hp.symm]

/-- An index of the array is in point `t`'s block iff each coordinate is in the block's range on its axis. -/
theorem mem_blk20 (t : Fin cfg0.N) (i : S1x8192.Idx) :
    i ∈ ((cfg0.win 20).blk t).view.set ↔ ∀ a : Fin 2, win0_20.index t a * S1x8192.size a ≤ (i a).val ∧ (i a).val < win0_20.index t a * S1x8192.size a + S1x8192.size a := by
  show i ∈ ((View.whole main_v44_2).slice (win0_20.rect t)).set ↔ _
  rw [View.set_slice_whole, Rect.mem_set_unit]
  exact Iff.rfl

/-- THE COVERED INDICES: in some flushing point's block iff inside the box those blocks fill. -/
theorem covered_iff20 (i : S1x8192.Idx) :
    (∃ t : Fin cfg0.N, (cfg0.win 20).flush t = true ∧ i ∈ ((cfg0.win 20).blk t).view.set) ↔ 0 ≤ (i 0).val ∧ (i 0).val < 1 ∧ 0 ≤ (i 1).val ∧ (i 1).val < 8192 := by
  constructor
  · rintro ⟨t, -, hi⟩
    rw [mem_blk20] at hi
    have b0 : win0_20.index t (0 : Fin 2) * 1 ≤ (i 0).val ∧ (i 0).val < win0_20.index t (0 : Fin 2) * 1 + 1 := hi 0
    have b1 : win0_20.index t (1 : Fin 2) * 8192 ≤ (i 1).val ∧ (i 1).val < win0_20.index t (1 : Fin 2) * 8192 + 8192 := hi 1
    obtain ⟨e0, e1, e2⟩ := idx_facts20 t
    omega
  · intro h
    have hi0 : (i 0).val < 1 := (i 0).isLt
    have hi1 : (i 1).val < 8192 := (i 1).isLt
    obtain ⟨t, hft, ht⟩ := idx_onto20 ⟨(i 0).val / 1 - 0, by omega⟩ ⟨(i 1).val / 8192 - 0, by omega⟩
    have q0 : win0_20.index t (0 : Fin 2) = (i 0).val / 1 - 0 + 0 := congrFun ht 0
    have q1 : win0_20.index t (1 : Fin 2) = (i 1).val / 8192 - 0 + 0 := congrFun ht 1
    refine ⟨t, hft, ?_⟩
    rw [mem_blk20]
    intro a
    match a with
    | ⟨0, _⟩ => show win0_20.index t (0 : Fin 2) * 1 ≤ (i 0).val ∧ (i 0).val < win0_20.index t (0 : Fin 2) * 1 + 1; omega
    | ⟨1, _⟩ => show win0_20.index t (1 : Fin 2) * 8192 ≤ (i 1).val ∧ (i 1).val < win0_20.index t (1 : Fin 2) * 8192 + 8192; omega

/-- THE ARRAY after the run: `G20` (the flushing blocks tile it). -/
theorem final20 (c : Dev nD) : (dats m 0 c).arrAt 20 cfg0.N = G20 m c :=
  (dats m 0 c).arrAt_eq_of_cover 20 _ (fun t hf => flushed20_eq m c t hf) (fun i => (covered_iff20 i).2 (by
    have h0 : (i 0).val < 1 := (i 0).isLt; have h1 : (i 1).val < 8192 := (i 1).isLt; omega))

/-- Output 20 is written back ONCE, at the last point, and its block is its array: the array after the run is output 20's
    component of the fold over the whole grid — where a hand proof over this window starts. -/
theorem G20_last (c : Dev nD) :
    G20 m c = (Pipeline.accAt (fun n h => stAt0 m c n h junk0) (stAt0 m c) 0 24 (lt_of_lt_of_eq (by decide) N_0.symm)).2.2.1 := by
  funext i
  have hi0 : (i 0).val < 1 := (i 0).isLt
  have hi1 : (i 1).val < 8192 := (i 1).isLt
  have hp : pt20Of i = 24 := by
    show 25 * (1 * ((i 0).val / 1 - 0) + 1 * ((i 1).val / 8192 - 0)) + 24 = _
    omega
  have hl : loc20Of i = i := by
    funext a; apply Fin.ext
    match a with
    | ⟨0, _⟩ => show (i 0).val % 1 = (i 0).val; omega
    | ⟨1, _⟩ => show (i 1).val % 8192 = (i 1).val; omega
  unfold G20
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v44_0) = G18 m c
      ∧ r.2.mem ((c : Thread nD τ).loc main_v44_1) = G19 m c
      ∧ r.2.mem ((c : Thread nD τ).loc main_v44_2) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(post18 m r h c).trans (final18 m c),
      (post19 m r h c).trans (final19 m c),
      (post20 m r h c).trans (final20 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.KernelIdeal.Value

end
-- ==== Proof.RI.StepRun.lean ====
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v10_5) = s.main_v10_5
  f_6 : V0 (Proc.devRef .tc main_v10_6) = s.main_v10_6
  f_0 : V0 (Proc.devRef .tc main_v10_0) = s.main_v10_0
  f_1 : V0 (Proc.devRef .tc main_v10_1) = s.main_v10_1
  f_2 : V0 (Proc.devRef .tc main_v10_2) = s.main_v10_2
  f_3 : V0 (Proc.devRef .tc main_v10_3) = s.main_v10_3
  n_4 : V0 (Proc.devRef .tc main_v10_4) = constantI S_ 32 (BitVec.ofNat 32 j)

variable {V0 s j}

set_option maxRecDepth 8192 in
/-- What operation 0 of the loop's body leaves, of a valuation the state describes. -/
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
/-- What operation 1 of the loop's body leaves, of a valuation the state describes. -/
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
/-- What operation 2 of the loop's body leaves, of a valuation the state describes. -/
theorem al_2 (h : Holds V0 s j) : (Host.dynamicSlice S1x1024x30 (V0 (Proc.devRef .tc main_v10_0)) (fun k => (((![V0 (Proc.devRef .tc main_v10_4), constantI S_ 32 0#32, constantI S_ 32 0#32] : Fin 3 → (⟨S_, .i32⟩ : BufTy).Contents (Elt F))) k (Shape.Idx.first h_S_)).toInt) sliceFits_S200x1024x30_S1x1024x30 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
/-- What operation 3 of the loop's body leaves, of a valuation the state describes. -/
theorem al_3 (h : Holds V0 s j) : (shapeCast S1024x30 (Host.dynamicSlice S1x1024x30 (V0 (Proc.devRef .tc main_v10_0)) (fun k => (((![V0 (Proc.devRef .tc main_v10_4), constantI S_ 32 0#32, constantI S_ 32 0#32] : Fin 3 → (⟨S_, .i32⟩ : BufTy).Contents (Elt F))) k (Shape.Idx.first h_S_)).toInt) sliceFits_S200x1024x30_S1x1024x30) shapeCasts_S1x1024x30_S1024x30 : (Proc.devRef .tc main_while0b_v139 : DevRef τ sig).ty.Contents (Elt F)) = Cert.ReferenceIdeal.Step.b3 j s := by
  unfold Cert.ReferenceIdeal.Step.b3
  rw [← al_2 h]
  try rfl
set_option maxRecDepth 8192 in
/-- What operation 4 of the loop's body leaves, of a valuation the state describes. -/
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
/-- What operation 5 of the loop's body leaves, of a valuation the state describes. -/
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
/-- What operation 6 of the loop's body leaves, of a valuation the state describes. -/
theorem al_6 (h : Holds V0 s j) : (Host.dynamicSlice S1x1024x1 (V0 (Proc.devRef .tc main_v10_1)) (fun k => (((![V0 (Proc.devRef .tc main_v10_4), constantI S_ 32 0#32, constantI S_ 32 0#32] : Fin 3 → (⟨S_, .i32⟩ : BufTy).Contents (Elt F))) k (Shape.Idx.first h_S_)).toInt) sliceFits_S200x1024x1_S1x1024x1 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_4]
  try rfl
set_option maxRecDepth 8192 in
/-- What operation 7 of the loop's body leaves, of a valuation the state describes. -/
theorem al_7 (h : Holds V0 s j) : (shapeCast S1024x1 (Host.dynamicSlice S1x1024x1 (V0 (Proc.devRef .tc main_v10_1)) (fun k => (((![V0 (Proc.devRef .tc main_v10_4), constantI S_ 32 0#32, constantI S_ 32 0#32] : Fin 3 → (⟨S_, .i32⟩ : BufTy).Contents (Elt F))) k (Shape.Idx.first h_S_)).toInt) sliceFits_S200x1024x1_S1x1024x1) shapeCasts_S1x1024x1_S1024x1 : (Proc.devRef .tc main_while0b_v140 : DevRef τ sig).ty.Contents (Elt F)) = Cert.ReferenceIdeal.Step.b7 j s := by
  unfold Cert.ReferenceIdeal.Step.b7
  rw [← al_6 h]
  try rfl
set_option maxRecDepth 8192 in
/-- What operation 8 of the loop's body leaves, of a valuation the state describes. -/
theorem al_8 (h : Holds V0 s j) : (res_main_while0b_v141 V0 : (Proc.devRef .tc main_while0b_v141 : DevRef τ sig).ty.Contents (Elt F)) = Cert.ReferenceIdeal.Step.b8 j s := by
  unfold res_main_while0b_v141 Cert.ReferenceIdeal.Step.b8
  rw [← al_3 h, h.f_2]
  try rfl
set_option maxRecDepth 8192 in
/-- What operation 9 of the loop's body leaves, of a valuation the state describes. -/
theorem al_9 (h : Holds V0 s j) : (res_main_while0b_v142 V0 : (Proc.devRef .tc main_while0b_v142 : DevRef τ sig).ty.Contents (Elt F)) = Cert.ReferenceIdeal.Step.b9 j s := by
  unfold res_main_while0b_v142 Cert.ReferenceIdeal.Step.b9
  rw [h.f_5, h.f_3]
  try rfl
set_option maxRecDepth 8192 in
/-- What operation 10 of the loop's body leaves, of a valuation the state describes. -/
theorem al_10 (h : Holds V0 s j) : (extractStridedSlice S1024x30 ![0, 0] (res_main_while0b_v141 V0) slices_S1024x90_S1024x30_0_0 : (Proc.devRef .tc main_while0b_v143 : DevRef τ sig).ty.Contents (Elt F)) = Cert.ReferenceIdeal.Step.b10 j s := by
  unfold Cert.ReferenceIdeal.Step.b10
  rw [← al_8 h]
  try rfl
set_option maxRecDepth 8192 in
/-- What operation 11 of the loop's body leaves, of a valuation the state describes. -/
theorem al_11 (h : Holds V0 s j) : (extractStridedSlice S1024x30 ![0, 30] (res_main_while0b_v141 V0) slices_S1024x90_S1024x30_0_30 : (Proc.devRef .tc main_while0b_v144 : DevRef τ sig).ty.Contents (Elt F)) = Cert.ReferenceIdeal.Step.b11 j s := by
  unfold Cert.ReferenceIdeal.Step.b11
  rw [← al_8 h]
  try rfl
set_option maxRecDepth 8192 in
/-- What operation 12 of the loop's body leaves, of a valuation the state describes. -/
theorem al_12 (h : Holds V0 s j) : (extractStridedSlice S1024x30 ![0, 60] (res_main_while0b_v141 V0) slices_S1024x90_S1024x30_0_60 : (Proc.devRef .tc main_while0b_v145 : DevRef τ sig).ty.Contents (Elt F)) = Cert.ReferenceIdeal.Step.b12 j s := by
  unfold Cert.ReferenceIdeal.Step.b12
  rw [← al_8 h]
  try rfl
set_option maxRecDepth 8192 in
/-- What operation 13 of the loop's body leaves, of a valuation the state describes. -/
theorem al_13 (h : Holds V0 s j) : (extractStridedSlice S1024x30 ![0, 0] (res_main_while0b_v142 V0) slices_S1024x90_S1024x30_0_0 : (Proc.devRef .tc main_while0b_v146 : DevRef τ sig).ty.Contents (Elt F)) = Cert.ReferenceIdeal.Step.b13 j s := by
  unfold Cert.ReferenceIdeal.Step.b13
  rw [← al_9 h]
  try rfl
set_option maxRecDepth 8192 in
/-- What operation 14 of the loop's body leaves, of a valuation the state describes. -/
theorem al_14 (h : Holds V0 s j) : (extractStridedSlice S1024x30 ![0, 30] (res_main_while0b_v142 V0) slices_S1024x90_S1024x30_0_30 : (Proc.devRef .tc main_while0b_v147 : DevRef τ sig).ty.Contents (Elt F)) = Cert.ReferenceIdeal.Step.b14 j s := by
  unfold Cert.ReferenceIdeal.Step.b14
  rw [← al_9 h]
  try rfl
set_option maxRecDepth 8192 in
/-- What operation 15 of the loop's body leaves, of a valuation the state describes. -/
theorem al_15 (h : Holds V0 s j) : (extractStridedSlice S1024x30 ![0, 60] (res_main_while0b_v142 V0) slices_S1024x90_S1024x30_0_60 : (Proc.devRef .tc main_while0b_v148 : DevRef τ sig).ty.Contents (Elt F)) = Cert.ReferenceIdeal.Step.b15 j s := by
  unfold Cert.ReferenceIdeal.Step.b15
  rw [← al_9 h]
  try rfl
set_option maxRecDepth 8192 in
/-- What operation 16 of the loop's body leaves, of a valuation the state describes. -/
theorem al_16 (h : Holds V0 s j) : (addf (extractStridedSlice S1024x30 ![0, 0] (res_main_while0b_v141 V0) slices_S1024x90_S1024x30_0_0) (extractStridedSlice S1024x30 ![0, 0] (res_main_while0b_v142 V0) slices_S1024x90_S1024x30_0_0) : (Proc.devRef .tc main_while0b_v149 : DevRef τ sig).ty.Contents (Elt F)) = Cert.ReferenceIdeal.Step.b16 j s := by
  unfold Cert.ReferenceIdeal.Step.b16
  rw [← al_10 h, ← al_13 h]
  try rfl
set_option maxRecDepth 8192 in
/-- What operation 17 of the loop's body leaves, of a valuation the state describes. -/
theorem al_17 (h : Holds V0 s j) : (Host.negf (addf (extractStridedSlice S1024x30 ![0, 0] (res_main_while0b_v141 V0) slices_S1024x90_S1024x30_0_0) (extractStridedSlice S1024x30 ![0, 0] (res_main_while0b_v142 V0) slices_S1024x90_S1024x30_0_0)) : (Proc.devRef .tc main_while0b_v150 : DevRef τ sig).ty.Contents (Elt F)) = Cert.ReferenceIdeal.Step.b17 j s := by
  unfold Cert.ReferenceIdeal.Step.b17
  rw [← al_16 h]
  try rfl
set_option maxRecDepth 8192 in
/-- What operation 18 of the loop's body leaves, of a valuation the state describes. -/
theorem al_18 (h : Holds V0 s j) : (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0))) : (Proc.devRef .tc main_while0b_v151 : DevRef τ sig).ty.Contents (Elt F)) = Cert.ReferenceIdeal.Step.b18 j s := by
  unfold Cert.ReferenceIdeal.Step.b18
  rw [← al_17 h]
  try rfl
set_option maxRecDepth 8192 in
/-- What operation 19 of the loop's body leaves, of a valuation the state describes. -/
theorem al_19 (h : Holds V0 s j) : (constant S_ .f32 0x3F800000#32 : (Proc.devRef .tc main_while0b_cst_21 : DevRef τ sig).ty.Contents (Elt F)) = Cert.ReferenceIdeal.Step.b19 j s := by
  unfold Cert.ReferenceIdeal.Step.b19
  rfl
set_option maxRecDepth 8192 in
/-- What operation 20 of the loop's body leaves, of a valuation the state describes. -/
theorem al_20 (h : Holds V0 s j) : (broadcastInDim S1024x30 ![] bcast_S_S1024x30 (constant S_ .f32 0x3F800000#32) : (Proc.devRef .tc main_while0b_v152 : DevRef τ sig).ty.Contents (Elt F)) = Cert.ReferenceIdeal.Step.b20 j s := by
  unfold Cert.ReferenceIdeal.Step.b20
  rw [← al_19 h]
  try rfl
set_option maxRecDepth 8192 in
/-- What operation 21 of the loop's body leaves, of a valuation the state describes. -/
theorem al_21 (h : Holds V0 s j) : (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))) : (Proc.devRef .tc main_while0b_v153 : DevRef τ sig).ty.Contents (Elt F)) = Cert.ReferenceIdeal.Step.b21 j s := by
  unfold Cert.ReferenceIdeal.Step.b21
  rw [← al_20 h, ← al_18 h]
  try rfl
set_option maxRecDepth 8192 in
/-- What operation 22 of the loop's body leaves, of a valuation the state describes. -/
theorem al_22 (h : Holds V0 s j) : (constant S_ .f32 0x3F800000#32 : (Proc.devRef .tc main_while0b_cst_22 : DevRef τ sig).ty.Contents (Elt F)) = Cert.ReferenceIdeal.Step.b22 j s := by
  unfold Cert.ReferenceIdeal.Step.b22
  rfl
set_option maxRecDepth 8192 in
/-- What operation 23 of the loop's body leaves, of a valuation the state describes. -/
theorem al_23 (h : Holds V0 s j) : (broadcastInDim S1024x30 ![] bcast_S_S1024x30 (constant S_ .f32 0x3F800000#32) : (Proc.devRef .tc main_while0b_v154 : DevRef τ sig).ty.Contents (Elt F)) = Cert.ReferenceIdeal.Step.b23 j s := by
  unfold Cert.ReferenceIdeal.Step.b23
  rw [← al_22 h]
  try rfl
set_option maxRecDepth 8192 in
/-- What operation 24 of the loop's body leaves, of a valuation the state describes. -/
theorem al_24 (h : Holds V0 s j) : (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0))))) : (Proc.devRef .tc main_while0b_v155 : DevRef τ sig).ty.Contents (Elt F)) = Cert.ReferenceIdeal.Step.b24 j s := by
  unfold Cert.ReferenceIdeal.Step.b24
  rw [← al_23 h, ← al_21 h]
  try rfl
set_option maxRecDepth 8192 in
/-- What operation 25 of the loop's body leaves, of a valuation the state describes. -/
theorem al_25 (h : Holds V0 s j) : (addf (extractStridedSlice S1024x30 ![0, 30] (res_main_while0b_v141 V0) slices_S1024x90_S1024x30_0_30) (extractStridedSlice S1024x30 ![0, 30] (res_main_while0b_v142 V0) slices_S1024x90_S1024x30_0_30) : (Proc.devRef .tc main_while0b_v156 : DevRef τ sig).ty.Contents (Elt F)) = Cert.ReferenceIdeal.Step.b25 j s := by
  unfold Cert.ReferenceIdeal.Step.b25
  rw [← al_11 h, ← al_14 h]
  try rfl
set_option maxRecDepth 8192 in
/-- What operation 26 of the loop's body leaves, of a valuation the state describes. -/
theorem al_26 (h : Holds V0 s j) : (Host.negf (addf (extractStridedSlice S1024x30 ![0, 30] (res_main_while0b_v141 V0) slices_S1024x90_S1024x30_0_30) (extractStridedSlice S1024x30 ![0, 30] (res_main_while0b_v142 V0) slices_S1024x90_S1024x30_0_30)) : (Proc.devRef .tc main_while0b_v157 : DevRef τ sig).ty.Contents (Elt F)) = Cert.ReferenceIdeal.Step.b26 j s := by
  unfold Cert.ReferenceIdeal.Step.b26
  rw [← al_25 h]
  try rfl
set_option maxRecDepth 8192 in
/-- What operation 27 of the loop's body leaves, of a valuation the state describes. -/
theorem al_27 (h : Holds V0 s j) : (Host.exp (Host.negf (addf (extractStridedSlice S1024x30 ![0, 30] (res_main_while0b_v141 V0) slices_S1024x90_S1024x30_0_30) (extractStridedSlice S1024x30 ![0, 30] (res_main_while0b_v142 V0) slices_S1024x90_S1024x30_0_30))) : (Proc.devRef .tc main_while0b_v158 : DevRef τ sig).ty.Contents (Elt F)) = Cert.ReferenceIdeal.Step.b27 j s := by
  unfold Cert.ReferenceIdeal.Step.b27
  rw [← al_26 h]
  try rfl
set_option maxRecDepth 8192 in
/-- What operation 28 of the loop's body leaves, of a valuation the state describes. -/
theorem al_28 (h : Holds V0 s j) : (constant S_ .f32 0x3F800000#32 : (Proc.devRef .tc main_while0b_cst_23 : DevRef τ sig).ty.Contents (Elt F)) = Cert.ReferenceIdeal.Step.b28 j s := by
  unfold Cert.ReferenceIdeal.Step.b28
  rfl
set_option maxRecDepth 8192 in
/-- What operation 29 of the loop's body leaves, of a valuation the state describes. -/
theorem al_29 (h : Holds V0 s j) : (broadcastInDim S1024x30 ![] bcast_S_S1024x30 (constant S_ .f32 0x3F800000#32) : (Proc.devRef .tc main_while0b_v159 : DevRef τ sig).ty.Contents (Elt F)) = Cert.ReferenceIdeal.Step.b29 j s := by
  unfold Cert.ReferenceIdeal.Step.b29
  rw [← al_28 h]
  try rfl
set_option maxRecDepth 8192 in
/-- What operation 30 of the loop's body leaves, of a valuation the state describes. -/
theorem al_30 (h : Holds V0 s j) : (addf (broadcastInDim S1024x30 ![] bcast_S_S1024x30 (constant S_ .f32 0x3F800000#32)) (Host.exp (Host.negf (addf (extractStridedSlice S1024x30 ![0, 30] (res_main_while0b_v141 V0) slices_S1024x90_S1024x30_0_30) (extractStridedSlice S1024x30 ![0, 30] (res_main_while0b_v142 V0) slices_S1024x90_S1024x30_0_30)))) : (Proc.devRef .tc main_while0b_v160 : DevRef τ sig).ty.Contents (Elt F)) = Cert.ReferenceIdeal.Step.b30 j s := by
  unfold Cert.ReferenceIdeal.Step.b30
  rw [← al_29 h, ← al_27 h]
  try rfl
set_option maxRecDepth 8192 in
/-- What operation 31 of the loop's body leaves, of a valuation the state describes. -/
theorem al_31 (h : Holds V0 s j) : (constant S_ .f32 0x3F800000#32 : (Proc.devRef .tc main_while0b_cst_24 : DevRef τ sig).ty.Contents (Elt F)) = Cert.ReferenceIdeal.Step.b31 j s := by
  unfold Cert.ReferenceIdeal.Step.b31
  rfl
set_option maxRecDepth 8192 in
/-- What operation 32 of the loop's body leaves, of a valuation the state describes. -/
theorem al_32 (h : Holds V0 s j) : (broadcastInDim S1024x30 ![] bcast_S_S1024x30 (constant S_ .f32 0x3F800000#32) : (Proc.devRef .tc main_while0b_v161 : DevRef τ sig).ty.Contents (Elt F)) = Cert.ReferenceIdeal.Step.b32 j s := by
  unfold Cert.ReferenceIdeal.Step.b32
  rw [← al_31 h]
  try rfl
set_option maxRecDepth 8192 in
/-- What operation 33 of the loop's body leaves, of a valuation the state describes. -/
theorem al_33 (h : Holds V0 s j) : (res_main_while0b_v162 V0 : (Proc.devRef .tc main_while0b_v162 : DevRef τ sig).ty.Contents (Elt F)) = Cert.ReferenceIdeal.Step.b33 j s := by
  unfold res_main_while0b_v162 Cert.ReferenceIdeal.Step.b33
  rw [← al_32 h, ← al_30 h]
  try rfl
set_option maxRecDepth 8192 in
/-- What operation 34 of the loop's body leaves, of a valuation the state describes. -/
theorem al_34 (h : Holds V0 s j) : (mulf (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))))) (extractStridedSlice S1024x30 ![0, 60] (res_main_while0b_v142 V0) slices_S1024x90_S1024x30_0_60) : (Proc.devRef .tc main_while0b_v163 : DevRef τ sig).ty.Contents (Elt F)) = Cert.ReferenceIdeal.Step.b34 j s := by
  unfold Cert.ReferenceIdeal.Step.b34
  rw [← al_24 h, ← al_15 h]
  try rfl
set_option maxRecDepth 8192 in
/-- What operation 35 of the loop's body leaves, of a valuation the state describes. -/
theorem al_35 (h : Holds V0 s j) : (addf (extractStridedSlice S1024x30 ![0, 60] (res_main_while0b_v141 V0) slices_S1024x90_S1024x30_0_60) (mulf (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))))) (extractStridedSlice S1024x30 ![0, 60] (res_main_while0b_v142 V0) slices_S1024x90_S1024x30_0_60)) : (Proc.devRef .tc main_while0b_v164 : DevRef τ sig).ty.Contents (Elt F)) = Cert.ReferenceIdeal.Step.b35 j s := by
  unfold Cert.ReferenceIdeal.Step.b35
  rw [← al_12 h, ← al_34 h]
  try rfl
set_option maxRecDepth 8192 in
/-- What operation 36 of the loop's body leaves, of a valuation the state describes. -/
theorem al_36 (h : Holds V0 s j) : (Host.tanh (addf (extractStridedSlice S1024x30 ![0, 60] (res_main_while0b_v141 V0) slices_S1024x90_S1024x30_0_60) (mulf (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))))) (extractStridedSlice S1024x30 ![0, 60] (res_main_while0b_v142 V0) slices_S1024x90_S1024x30_0_60))) : (Proc.devRef .tc main_while0b_v165 : DevRef τ sig).ty.Contents (Elt F)) = Cert.ReferenceIdeal.Step.b36 j s := by
  unfold Cert.ReferenceIdeal.Step.b36
  rw [← al_35 h]
  try rfl
set_option maxRecDepth 8192 in
/-- What operation 37 of the loop's body leaves, of a valuation the state describes. -/
theorem al_37 (h : Holds V0 s j) : (constant S_ .f32 0x3F800000#32 : (Proc.devRef .tc main_while0b_cst_25 : DevRef τ sig).ty.Contents (Elt F)) = Cert.ReferenceIdeal.Step.b37 j s := by
  unfold Cert.ReferenceIdeal.Step.b37
  rfl
set_option maxRecDepth 8192 in
/-- What operation 38 of the loop's body leaves, of a valuation the state describes. -/
theorem al_38 (h : Holds V0 s j) : (broadcastInDim S1024x30 ![] bcast_S_S1024x30 (constant S_ .f32 0x3F800000#32) : (Proc.devRef .tc main_while0b_v166 : DevRef τ sig).ty.Contents (Elt F)) = Cert.ReferenceIdeal.Step.b38 j s := by
  unfold Cert.ReferenceIdeal.Step.b38
  rw [← al_37 h]
  try rfl
set_option maxRecDepth 8192 in
/-- What operation 39 of the loop's body leaves, of a valuation the state describes. -/
theorem al_39 (h : Holds V0 s j) : (subf (broadcastInDim S1024x30 ![] bcast_S_S1024x30 (constant S_ .f32 0x3F800000#32)) (res_main_while0b_v162 V0) : (Proc.devRef .tc main_while0b_v167 : DevRef τ sig).ty.Contents (Elt F)) = Cert.ReferenceIdeal.Step.b39 j s := by
  unfold Cert.ReferenceIdeal.Step.b39
  rw [← al_38 h, ← al_33 h]
  try rfl
set_option maxRecDepth 8192 in
/-- What operation 40 of the loop's body leaves, of a valuation the state describes. -/
theorem al_40 (h : Holds V0 s j) : (mulf (subf (broadcastInDim S1024x30 ![] bcast_S_S1024x30 (constant S_ .f32 0x3F800000#32)) (res_main_while0b_v162 V0)) (Host.tanh (addf (extractStridedSlice S1024x30 ![0, 60] (res_main_while0b_v141 V0) slices_S1024x90_S1024x30_0_60) (mulf (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))))) (extractStridedSlice S1024x30 ![0, 60] (res_main_while0b_v142 V0) slices_S1024x90_S1024x30_0_60)))) : (Proc.devRef .tc main_while0b_v168 : DevRef τ sig).ty.Contents (Elt F)) = Cert.ReferenceIdeal.Step.b40 j s := by
  unfold Cert.ReferenceIdeal.Step.b40
  rw [← al_39 h, ← al_36 h]
  try rfl
set_option maxRecDepth 8192 in
/-- What operation 41 of the loop's body leaves, of a valuation the state describes. -/
theorem al_41 (h : Holds V0 s j) : (mulf (res_main_while0b_v162 V0) (V0 (Proc.devRef .tc main_v10_5)) : (Proc.devRef .tc main_while0b_v169 : DevRef τ sig).ty.Contents (Elt F)) = Cert.ReferenceIdeal.Step.b41 j s := by
  unfold Cert.ReferenceIdeal.Step.b41
  rw [← al_33 h, h.f_5]
  try rfl
set_option maxRecDepth 8192 in
/-- What operation 42 of the loop's body leaves, of a valuation the state describes. -/
theorem al_42 (h : Holds V0 s j) : (addf (mulf (subf (broadcastInDim S1024x30 ![] bcast_S_S1024x30 (constant S_ .f32 0x3F800000#32)) (res_main_while0b_v162 V0)) (Host.tanh (addf (extractStridedSlice S1024x30 ![0, 60] (res_main_while0b_v141 V0) slices_S1024x90_S1024x30_0_60) (mulf (Host.divf (broadcastInDim S1024x30 ![] bcast_S_S1024x30 (constant S_ .f32 0x3F800000#32)) (addf (broadcastInDim S1024x30 ![] bcast_S_S1024x30 (constant S_ .f32 0x3F800000#32)) (Host.exp (Host.negf (addf (extractStridedSlice S1024x30 ![0, 0] (res_main_while0b_v141 V0) slices_S1024x90_S1024x30_0_0) (extractStridedSlice S1024x30 ![0, 0] (res_main_while0b_v142 V0) slices_S1024x90_S1024x30_0_0)))))) (extractStridedSlice S1024x30 ![0, 60] (res_main_while0b_v142 V0) slices_S1024x90_S1024x30_0_60))))) (mulf (res_main_while0b_v162 V0) (V0 (Proc.devRef .tc main_v10_5))) : (Proc.devRef .tc main_while0b_v170 : DevRef τ sig).ty.Contents (Elt F)) = Cert.ReferenceIdeal.Step.b42 j s := by
  unfold Cert.ReferenceIdeal.Step.b42
  rw [← al_40 h, ← al_41 h]
  try rfl
set_option maxRecDepth 8192 in
/-- What operation 43 of the loop's body leaves, of a valuation the state describes. -/
theorem al_43 (h : Holds V0 s j) : (broadcastInDim S1024x30 ![0, 1] bcast_S1024x1_S1024x30_0_1 (shapeCast S1024x1 (Host.dynamicSlice S1x1024x1 (V0 (Proc.devRef .tc main_v10_1)) (fun k => (((![V0 (Proc.devRef .tc main_v10_4), constantI S_ 32 0#32, constantI S_ 32 0#32] : Fin 3 → (⟨S_, .i32⟩ : BufTy).Contents (Elt F))) k (Shape.Idx.first h_S_)).toInt) sliceFits_S200x1024x1_S1x1024x1) shapeCasts_S1x1024x1_S1024x1) : (Proc.devRef .tc main_while0b_call2_v0 : DevRef τ sig).ty.Contents (Elt F)) = Cert.ReferenceIdeal.Step.b43 j s := by
  unfold Cert.ReferenceIdeal.Step.b43
  rw [← al_7 h]
  try rfl
set_option maxRecDepth 8192 in
/-- What operation 44 of the loop's body leaves, of a valuation the state describes. -/
theorem al_44 (h : Holds V0 s j) : (res_main_while0b_v171 V0 : (Proc.devRef .tc main_while0b_v171 : DevRef τ sig).ty.Contents (Elt F)) = Cert.ReferenceIdeal.Step.b44 j s := by
  unfold res_main_while0b_v171 Cert.ReferenceIdeal.Step.b44
  rw [← al_43 h, ← al_42 h, h.f_5]
  try rfl
set_option maxRecDepth 8192 in
/-- What operation 45 of the loop's body leaves, of a valuation the state describes. -/
theorem al_45 (h : Holds V0 s j) : (broadcastInDim S1x1024x30 ![1, 2] bcast_S1024x30_S1x1024x30_1_2 (res_main_while0b_v171 V0) : (Proc.devRef .tc main_while0b_call3_v0 : DevRef τ sig).ty.Contents (Elt F)) = Cert.ReferenceIdeal.Step.b45 j s := by
  unfold Cert.ReferenceIdeal.Step.b45
  rw [← al_44 h]
  try rfl
set_option maxRecDepth 8192 in
/-- What operation 46 of the loop's body leaves, of a valuation the state describes. -/
theorem al_46 (h : Holds V0 s j) : (constantI S_ 32 0#32 : (Proc.devRef .tc main_while0b_call3_c : DevRef τ sig).ty.Contents (Elt F)) = Cert.ReferenceIdeal.Step.b46 j s := by
  unfold Cert.ReferenceIdeal.Step.b46
  rfl
set_option maxRecDepth 8192 in
/-- What operation 47 of the loop's body leaves, of a valuation the state describes. -/
theorem al_47 (h : Holds V0 s j) : (constantI S_ 32 0#32 : (Proc.devRef .tc main_while0b_call3_c_0 : DevRef τ sig).ty.Contents (Elt F)) = Cert.ReferenceIdeal.Step.b47 j s := by
  unfold Cert.ReferenceIdeal.Step.b47
  rfl
set_option maxRecDepth 8192 in
/-- What operation 48 of the loop's body leaves, of a valuation the state describes. -/
theorem al_48 (h : Holds V0 s j) : (Host.dynamicUpdateSlice (V0 (Proc.devRef .tc main_v10_6)) (broadcastInDim S1x1024x30 ![1, 2] bcast_S1024x30_S1x1024x30_1_2 (res_main_while0b_v171 V0)) (fun k => (((![V0 (Proc.devRef .tc main_v10_4), constantI S_ 32 0#32, constantI S_ 32 0#32] : Fin 3 → (⟨S_, .i32⟩ : BufTy).Contents (Elt F))) k (Shape.Idx.first h_S_)).toInt) updateFits_S200x1024x30_S1x1024x30 : (Proc.devRef .tc main_while0b_v172 : DevRef τ sig).ty.Contents (Elt F)) = Cert.ReferenceIdeal.Step.b48 j s := by
  unfold Cert.ReferenceIdeal.Step.b48
  rw [← al_45 h, ← al_46 h, ← al_47 h, h.f_6, h.n_4]
  try rfl

/-! One trip's step of the carried values is `step`, field by field; a counter steps to the next number. -/

/-- Field 5 of the next state is what one pass of the body leaves. -/
theorem step_5 (h : Holds V0 s j) : step_main_v10_5 V0 = (step j s).main_v10_5 := by
  unfold step_main_v10_5 Cert.ReferenceIdeal.Step.step
  show id (res_main_while0b_v171 V0) = _
  rw [al_44 h]
  try rfl
/-- Field 6 of the next state is what one pass of the body leaves. -/
theorem step_6 (h : Holds V0 s j) : step_main_v10_6 V0 = (step j s).main_v10_6 := by
  unfold step_main_v10_6 Cert.ReferenceIdeal.Step.step
  exact al_48 h
/-- Field 4 of the next state is what one pass of the body leaves. -/
theorem step_4 (h : Holds V0 s j) : step_main_v10_4 V0 = constantI S_ 32 (BitVec.ofNat 32 (j + 1)) := by
  unfold step_main_v10_4
  rw [h.n_4]
  funext i
  show BitVec.ofNat 32 j + 1#32 = BitVec.ofNat 32 (j + 1)
  simp only [BitVec.ofNat_add]

set_option maxRecDepth 8192 in
/-- The result main_v137 of a valuation the state describes. -/
theorem out_main_v137_holds (h : Holds V0 s j) : out_main_v137 V0 = Cert.ReferenceIdeal.Step.R_main_v137 s := by
  unfold out_main_v137 Cert.ReferenceIdeal.Step.R_main_v137
  rw [h.f_6]
  try rfl

set_option maxRecDepth 8192 in
/-- The result main_v138 of a valuation the state describes. -/
theorem out_main_v138_holds (h : Holds V0 s j) {x_main_arg2 : (⟨S1024x30, .f32⟩ : BufTy).Contents (Elt F)} (h_main_arg2 : V0 (Proc.devRef .tc main_arg2) = x_main_arg2) {x_main_arg12 : (⟨S30x40, .f32⟩ : BufTy).Contents (Elt F)} (h_main_arg12 : V0 (Proc.devRef .tc main_arg12) = x_main_arg12) {x_main_arg13 : (⟨S40, .f32⟩ : BufTy).Contents (Elt F)} (h_main_arg13 : V0 (Proc.devRef .tc main_arg13) = x_main_arg13) {x_main_arg14 : (⟨S40x1, .f32⟩ : BufTy).Contents (Elt F)} (h_main_arg14 : V0 (Proc.devRef .tc main_arg14) = x_main_arg14) {x_main_arg15 : (⟨S1, .f32⟩ : BufTy).Contents (Elt F)} (h_main_arg15 : V0 (Proc.devRef .tc main_arg15) = x_main_arg15) : out_main_v138 V0 = Cert.ReferenceIdeal.Step.R_main_v138 s x_main_arg2 x_main_arg12 x_main_arg13 x_main_arg14 x_main_arg15 := by
  unfold out_main_v138 Cert.ReferenceIdeal.Step.R_main_v138
  rw [h.f_6, h_main_arg2, h_main_arg12, h_main_arg13, h_main_arg14, h_main_arg15]
  try rfl

set_option maxRecDepth 8192 in
/-- The result main_v136 of a valuation the state describes. -/
theorem out_main_v136_holds (h : Holds V0 s j) {x_main_arg0 : (⟨S1024x200x30, .f32⟩ : BufTy).Contents (Elt F)} (h_main_arg0 : V0 (Proc.devRef .tc main_arg0) = x_main_arg0) {x_main_arg1 : (⟨S1024x200x30, .f32⟩ : BufTy).Contents (Elt F)} (h_main_arg1 : V0 (Proc.devRef .tc main_arg1) = x_main_arg1) {x_main_arg3 : (⟨S1024, .i32⟩ : BufTy).Contents (Elt F)} (h_main_arg3 : V0 (Proc.devRef .tc main_arg3) = x_main_arg3) {x_main_arg6 : (⟨S60x32, .f32⟩ : BufTy).Contents (Elt F)} (h_main_arg6 : V0 (Proc.devRef .tc main_arg6) = x_main_arg6) {x_main_arg7 : (⟨S32, .f32⟩ : BufTy).Contents (Elt F)} (h_main_arg7 : V0 (Proc.devRef .tc main_arg7) = x_main_arg7) {x_main_arg8 : (⟨S32x16, .f32⟩ : BufTy).Contents (Elt F)} (h_main_arg8 : V0 (Proc.devRef .tc main_arg8) = x_main_arg8) {x_main_arg9 : (⟨S16, .f32⟩ : BufTy).Contents (Elt F)} (h_main_arg9 : V0 (Proc.devRef .tc main_arg9) = x_main_arg9) {x_main_arg10 : (⟨S16x1, .f32⟩ : BufTy).Contents (Elt F)} (h_main_arg10 : V0 (Proc.devRef .tc main_arg10) = x_main_arg10) {x_main_arg11 : (⟨S1, .f32⟩ : BufTy).Contents (Elt F)} (h_main_arg11 : V0 (Proc.devRef .tc main_arg11) = x_main_arg11) : out_main_v136 V0 = Cert.ReferenceIdeal.Step.R_main_v136 s x_main_arg0 x_main_arg1 x_main_arg3 x_main_arg6 x_main_arg7 x_main_arg8 x_main_arg9 x_main_arg10 x_main_arg11 := by
  unfold out_main_v136 Cert.ReferenceIdeal.Step.R_main_v136
  rw [h.f_6, h_main_arg0, h_main_arg1, h_main_arg3, h_main_arg6, h_main_arg7, h_main_arg8, h_main_arg9, h_main_arg10, h_main_arg11]
  try rfl

/-- One trip keeps the valuation holding: `step` of the state, the same set-up values, the next number. -/
theorem holds_step (h : Holds V0 s j) : Holds (STEP V0) (step j s) (j + 1) where
  f_5 := (STEP_main_v10_5 V0).trans (step_5 h)
  f_6 := (STEP_main_v10_6 V0).trans (step_6 h)
  n_4 := (STEP_main_v10_4 V0).trans (step_4 h)
  f_0 := (STEP_main_v10_0 V0).trans h.f_0
  f_1 := (STEP_main_v10_1 V0).trans h.f_1
  f_2 := (STEP_main_v10_2 V0).trans h.f_2
  f_3 := (STEP_main_v10_3 V0).trans h.f_3

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg5)) (m ((c.tc : Thread nD τ).loc main_arg0)) (m ((c.tc : Thread nD τ).loc main_arg3))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 200 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v137) = Cert.ReferenceIdeal.Step.R_main_v137 (it c 200)
      ∧ r.2.mem ((c.tc : Thread nD τ).loc main_v138) = Cert.ReferenceIdeal.Step.R_main_v138 (it c 200) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v136) = Cert.ReferenceIdeal.Step.R_main_v136 (it c 200) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 200
    ⟨(h c).1.trans (out_main_v137_holds hk), (h c).2.1.trans (out_main_v138_holds hk (iter_main_arg2 m c 200) (iter_main_arg12 m c 200) (iter_main_arg13 m c 200) (iter_main_arg14 m c 200) (iter_main_arg15 m c 200)), (h c).2.2.1.trans (out_main_v136_holds hk (iter_main_arg0 m c 200) (iter_main_arg1 m c 200) (iter_main_arg3 m c 200) (iter_main_arg6 m c 200) (iter_main_arg7 m c 200) (iter_main_arg8 m c 200) (iter_main_arg9 m c 200) (iter_main_arg10 m c 200) (iter_main_arg11 m c 200)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.ReferenceIdeal.StepRun

end
-- ==== Proof.Spec.lean ====
module

public import Idealize.ShloMosaic.Lib.Pointwise
public import Idealize.ShloMosaic.Lib.IdealHost

@[expose] public section

noncomputable section

/-! What one batch row computes, as functions of numbers: the recurrence over the time steps, the attention score of a
    hidden state, and the loss term of a time step. Both programs are read as these. -/

namespace Cert.Own

open Idealize.ShloMosaic

/-- Column `30 s + d` of a gate weight matrix, applied to a vector: block `s` of the three gate blocks, feature `d`. -/
def gate (W : Fin 30 → Fin 90 → EReal) (x : Fin 30 → EReal) (s : Fin 3) (d : Fin 30) : EReal :=
  ∑ k : Fin 30, x k * W k ⟨30 * s.val + d.val, by have := s.isLt; have := d.isLt; omega⟩

/-- The new hidden state of one time step, before the mask. -/
def cell (Wi Wh : Fin 30 → Fin 90 → EReal) (x h : Fin 30 → EReal) (d : Fin 30) : EReal :=
  (1 - Ideal.logistic (gate Wi x 1 d + gate Wh h 1 d))
      * Ideal.tanh (gate Wi x 2 d + Ideal.logistic (gate Wi x 0 d + gate Wh h 0 d) * gate Wh h 2 d)
    + Ideal.logistic (gate Wi x 1 d + gate Wh h 1 d) * h d

/-- The hidden state after `t` time steps of a row of length `len`: it stands still from step `len` on. -/
def hid (Wi Wh : Fin 30 → Fin 90 → EReal) (x : ℕ → Fin 30 → EReal) (len : BitVec 32) : ℕ → Fin 30 → EReal
  | 0 => fun _ => 0
  | t + 1 => fun d => Scalar.select (IntOp.cmpi .slt (BitVec.ofNat 32 t) len)
      (cell Wi Wh (x t) (hid Wi Wh x len t) d) (hid Wi Wh x len t d)

/-- The attention score of a hidden state against the row's target item. -/
def score (T1 : Fin 30 → Fin 40 → EReal) (tb1 : Fin 40 → EReal) (T2 : Fin 40 → EReal) (tb2 : EReal)
    (tgt h : Fin 30 → EReal) : EReal :=
  (∑ a : Fin 40, Ideal.logistic ((∑ k : Fin 30, tgt k * h k * T1 k a) + tb1 a) * T2 a) + tb2

/-- The auxiliary network's output for a previous hidden state and an item. -/
def aux (A1 : Fin 60 → Fin 32 → EReal) (b1 : Fin 32 → EReal) (A2 : Fin 32 → Fin 16 → EReal) (b2 : Fin 16 → EReal)
    (A3 : Fin 16 → EReal) (b3 : EReal) (h e : Fin 30 → EReal) : EReal :=
  (∑ c : Fin 16, Ideal.logistic ((∑ a : Fin 32, Ideal.logistic ((∑ k : Fin 30, h k * A1 ⟨k.val, by omega⟩ a)
    + (∑ k : Fin 30, e k * A1 ⟨30 + k.val, by omega⟩ a) + b1 a) * A2 a c) + b2 c) * A3 c) + b3

/-- The negated logarithm of the logistic function. -/
def nls (x : EReal) : EReal := -(min x 0 - Ideal.log1p (Ideal.exp (-(max x (-x)))))

/-- Whether time step `t` of a row of length `len` has a loss term. -/
def live (t : ℕ) (len : BitVec 32) : BitVec 1 :=
  IntOp.andi (IntOp.cmpi .sge (BitVec.ofNat 32 t) 1#32) (IntOp.cmpi .slt (BitVec.ofNat 32 t) len)

/-- The loss term of time step `t`: zero outside the row and at the first step. -/
def term (t : ℕ) (len : BitVec 32) (p n : EReal) : EReal :=
  Scalar.select (live t len) (nls p + nls (-n)) 0

end Cert.Own

end
-- ==== Proof.Nls.lean ====
module

public import proofs.«01_k».proof.Proof.Spec

@[expose] public section

noncomputable section

/-! The two spellings of the negated logarithm of the logistic function, and of a masked loss term. -/

namespace Cert.Own

open Idealize.ShloMosaic

/-- An exponential is at least zero. -/
theorem exp_ge (x : EReal) : 0 ≤ Ideal.exp x := by
  induction x using EReal.rec with
  | bot => exact le_refl _
  | top => exact le_top
  | coe r => exact EReal.coe_nonneg.2 (Real.exp_pos r).le

/-- The logarithm of one plus something nonnegative is not minus infinity. -/
theorem log1p_ne (y : EReal) (h : 0 ≤ y) : Ideal.log1p y ≠ ⊥ := by
  induction y using EReal.rec with
  | bot => exact absurd h (by simp)
  | top =>
    have : (1 : EReal) + ⊤ = ⊤ := EReal.add_top_of_ne_bot (by decide)
    rw [Ideal.log1p, this]; exact top_ne_bot
  | coe r =>
    have hr : 0 ≤ r := EReal.coe_nonneg.1 h
    have : (1 : EReal) + (r : EReal) = ((1 + r : ℝ) : EReal) := by norm_cast
    rw [Ideal.log1p, this, Ideal.log_coe, if_neg (by linarith)]
    exact EReal.coe_ne_bot _

/-- The logarithm of the sum of two exponentials, one of them of zero, is the same function. -/
theorem nls_eq (x : EReal) : max (-x) 0 + Ideal.log1p (Ideal.exp (-(max (-x) (- -x)))) = nls x := by
  have hm : max (-x) 0 = -(min x 0) := by
    rcases le_total x 0 with h | h
    · rw [min_eq_left h, max_eq_left (by simpa using EReal.neg_le_neg_iff.2 h)]
    · rw [min_eq_right h, max_eq_right (by simpa using EReal.neg_le_neg_iff.2 h), neg_zero]
  have ht : min x 0 ≠ ⊤ := ne_of_lt (lt_of_le_of_lt (min_le_right _ _) (by decide))
  rw [nls, neg_neg, max_comm (-x) x, hm,
    EReal.neg_sub (Or.inr (log1p_ne _ (exp_ge _))) (Or.inl ht)]

/-- Times a truth value, zero or one, is a selection. -/
theorem mul_bit (c : BitVec 1) (x : EReal) : x * FloatOps.uitofp (F := Ideal) .f32 c = Scalar.select c x 0 := by
  show x * (((c.toNat : ℝ) : EReal)) = _
  rcases BitVec.eq_zero_or_eq_one c with rfl | rfl
  · simp [Scalar.select]
  · simp [Scalar.select]

/-- The first time step has no loss term. -/
theorem term_zero (len : BitVec 32) (p n : EReal) : term 0 len p n = 0 := by
  have : live 0 len = 0#1 := by
    unfold live
    rw [show IntOp.cmpi .sge (BitVec.ofNat 32 0) 1#32 = 0#1 from by decide]
    exact BitVec.zero_and
  rw [term, this]; rfl

/-- The same, for a step known to be the first. -/
theorem term_first (t : ℕ) (h : t = 0) (len : BitVec 32) (p n : EReal) : term t len p n = 0 := h ▸ term_zero len p n

/-- From the second step on only the row's length decides. -/
theorem term_pos (t : ℕ) (h1 : 1 ≤ t) (h2 : t < 200) (len : BitVec 32) (p n : EReal) :
    term t len p n = Scalar.select (IntOp.cmpi .slt (BitVec.ofNat 32 t) len) (nls p + nls (-n)) 0 := by
  have : live t len = IntOp.cmpi .slt (BitVec.ofNat 32 t) len := by
    unfold live
    have hge : ∀ t : Fin 200, 1 ≤ t.val → IntOp.cmpi .sge (BitVec.ofNat 32 t.val) 1#32 = 1#1 := by decide +kernel
    rw [hge ⟨t, h2⟩ h1]
    show 1#1 &&& _ = _
    rcases BitVec.eq_zero_or_eq_one (IntOp.cmpi .slt (BitVec.ofNat 32 t) len) with h | h <;> rw [h] <;> rfl
  rw [term, this]

end Cert.Own

end
-- ==== Proof.KV.Cell.lean ====
module

public import proofs.«01_k».proof.Proof.Gen.KernelIdeal.Skeleton
public import proofs.«01_k».proof.Proof.Nls

@[expose] public section

set_option maxRecDepth 16384

noncomputable section

namespace Cert.Own.Ker

open Idealize.ShloMosaic Idealize.ShloMosaic.TcCoe Idealize.SL.Sem Cert.KernelIdeal Cert.KernelIdeal.Gen

/-- One time step of the recurrence on a block of 1024 rows, as the kernel writes it: `xs` the step's items, `h` the
    hidden state before, `w` the step's number, `v4` the rows' lengths, `v6` and `v8` the padded gate weights. -/
def vcell (w : BitVec 32) (v4 : IVec S1x1024 32) (v6 : FVec Ideal S96x30 .bf16) (v8 : FVec Ideal S96x30 .f32) (xs : FVec Ideal S30x1024 .bf16) (h : FVec Ideal S30x1024 .f32) : FVec Ideal S30x1024 .f32 :=
  have gx : FVec Ideal S96x1024 .f32 := matmul dot_S96x30_S30x1024_S96x1024_1_0_0_1_n_n none v6 xs (constant S96x1024 .f32 0x00000000#32)
  have gh : FVec Ideal S96x1024 .f32 := matmul dot_S96x30_S30x1024_S96x1024_1_0_0_1_n_n none v8 h (constant S96x1024 .f32 0x00000000#32)
  have rz : FVec Ideal S64x1024 .f32 := logistic (addf (extractStridedSlice S64x1024 ![0, 0] gx slices_S96x1024_o0_0_S64x1024) (extractStridedSlice S64x1024 ![0, 0] gh slices_S96x1024_o0_0_S64x1024))
  have r : FVec Ideal S30x1024 .f32 := extractStridedSlice S30x1024 ![0, 0] rz slices_S64x1024_o0_0_S30x1024
  have z : FVec Ideal S30x1024 .f32 := extractStridedSlice S30x1024 ![32, 0] rz slices_S64x1024_o32_0_S30x1024
  have n : FVec Ideal S30x1024 .f32 := tanh (addf (extractStridedSlice S30x1024 ![64, 0] gx slices_S96x1024_o64_0_S30x1024) (mulf r (extractStridedSlice S30x1024 ![64, 0] gh slices_S96x1024_o64_0_S30x1024)))
  have new : FVec Ideal S30x1024 .f32 := addf (mulf (subf (broadcast S30x1024 (Scalar.ofBits .f32 0x3F800000#32)) z) n) (mulf z h)
  have mask : IVec S30x1024 1 := broadcastTo S30x1024 (shapeCast S1x1024 (cmpi .slt (broadcast S1x1024 w) v4) shapeCasts_S1x1024_S1x1024) broadcasts_S1x1024_S30x1024
  select mask new h

/-- The number of the step `j` of a grid point. -/
abbrev word (a : BitVec 32) (j : BitVec 32) : BitVec 32 := Scalar.addi (Scalar.muli a 8#32) j

/-- That step on numbers: row `b`'s cell where the row is live, else its state as it was. -/
theorem vcell_at (Wi Wh : Fin 30 → Fin 90 → EReal) (w : BitVec 32) (v4 : IVec S1x1024 32) (v6 : FVec Ideal S96x30 .bf16) (v8 : FVec Ideal S96x30 .f32)
    (h6 : ∀ (s : Fin 3) (d k : Fin 30), v6 (ix2 ⟨32 * s.val + d.val, by omega⟩ k) = Wi k ⟨30 * s.val + d.val, by omega⟩)
    (h8 : ∀ (s : Fin 3) (d k : Fin 30), v8 (ix2 ⟨32 * s.val + d.val, by omega⟩ k) = Wh k ⟨30 * s.val + d.val, by omega⟩)
    (xs : FVec Ideal S30x1024 .bf16) (h : FVec Ideal S30x1024 .f32) (d : Fin 30) (b : Fin 1024) :
    vcell w v4 v6 v8 xs h (ix2 d b) = Scalar.select (IntOp.cmpi .slt w (v4 (ix2 0 b)))
      (cell Wi Wh (fun k => xs (ix2 k b)) (fun k => h (ix2 k b)) d) (h (ix2 d b)) := by
  have e6 : ∀ s : Fin 3, ∑ k, v6 (ix2 ⟨32 * s.val + d.val, by omega⟩ k) * xs (ix2 k b) = gate Wi (fun k => xs (ix2 k b)) s d :=
    fun s => Finset.sum_congr rfl fun k _ => by rw [h6, mul_comm]
  have e8 : ∀ s : Fin 3, ∑ k, v8 (ix2 ⟨32 * s.val + d.val, by omega⟩ k) * h (ix2 k b) = gate Wh (fun k => h (ix2 k b)) s d :=
    fun s => Finset.sum_congr rfl fun k _ => by rw [h8, mul_comm]
  have a0 := e6 0; have a1 := e6 1; have a2 := e6 2; have b0 := e8 0; have b1 := e8 1; have b2 := e8 2
  unfold cell
  rw [← a0, ← a1, ← a2, ← b0, ← b1, ← b2]
  clear e6 e8 a0 a1 a2 b0 b1 b2
  pointwise [vcell]

variable (i : grid0.Coords) (a : BitVec 32) (v4 : IVec S1x1024 32) (v6 : FVec Ideal S96x30 .bf16) (v8 : FVec Ideal S96x30 .f32) (v10 : FVec Ideal S30x8192 .bf16) (h : FVec Ideal S30x1024 .f32)

/-- The body's term of sub-step 0: one cell on the state before it and its slab of the items. -/
theorem p0 (v3 v5 v7 v9) : k0_pay8 (F := Ideal) i v3 v5 v7 v9 h = vcell (word (BitVec.ofNat 32 (i 0).val) 0#32) (k0_pay4 (F := Ideal) v3) (k0_pay5 v5) (k0_pay6 v7) (extractStridedSlice S30x1024 ![0, 0] (k0_pay7 v9) slices_S30x8192_o0_0_S30x1024) h := rfl
/-- The body's term of sub-step 1: one cell on the state before it and its slab of the items. -/
theorem p1 : k0_pay11 (F := Ideal) a v4 v6 v8 v10 h = vcell (word a 1#32) v4 v6 v8 (extractStridedSlice S30x1024 ![0, 1024] v10 slices_S30x8192_o0_1024_S30x1024) h := rfl
/-- The body's term of sub-step 2: one cell on the state before it and its slab of the items. -/
theorem p2 : k0_pay18 (F := Ideal) a v4 (k0_pay11 a v4 v6 v8 v10 h) (k0_pay16 a v4 v6 v8 v10 h) (k0_pay17 a v4 v6 v8 v10 h)
   = vcell (word a 2#32) v4 v6 v8 (extractStridedSlice S30x1024 ![0, 2048] v10 slices_S30x8192_o0_2048_S30x1024) (k0_pay11 a v4 v6 v8 v10 h) := rfl
/-- The body's term of sub-step 3: one cell on the state before it and its slab of the items. -/
theorem p3 (v67 v80 v84) : k0_pay20 (F := Ideal) a v4 v6 v8 v10 v67 v80 v84 = vcell (word a 3#32) v4 v6 v8 (extractStridedSlice S30x1024 ![0, 3072] v10 slices_S30x8192_o0_3072_S30x1024) (k0_pay18 (F := Ideal) a v4 v67 v80 v84) := rfl
/-- The body's term of sub-step 4: one cell on the state before it and its slab of the items. -/
theorem p4 : k0_pay23 (F := Ideal) a v4 v6 v8 v10 h = vcell (word a 4#32) v4 v6 v8 (extractStridedSlice S30x1024 ![0, 4096] v10 slices_S30x8192_o0_4096_S30x1024) h := rfl
/-- The body's term of sub-step 5: one cell on the state before it and its slab of the items. -/
theorem p5 : k0_pay31 (F := Ideal) a v4 (k0_pay23 a v4 v6 v8 v10 h) (k0_pay28 a v4 v6 v8 v10 h) (k0_pay29 a v4 v6 v8 v10 h) k0_pay30
   = vcell (word a 5#32) v4 v6 v8 (extractStridedSlice S30x1024 ![0, 5120] v10 slices_S30x8192_o0_5120_S30x1024) (k0_pay23 a v4 v6 v8 v10 h) := rfl
/-- The body's term of sub-step 6: one cell on the state before it and its slab of the items. -/
theorem p6 (v157 v170 v175 v176) : k0_pay33 (F := Ideal) a v4 v6 v8 v10 v157 v170 v175 v176 = vcell (word a 6#32) v4 v6 v8 (extractStridedSlice S30x1024 ![0, 6144] v10 slices_S30x8192_o0_6144_S30x1024) (k0_pay31 (F := Ideal) a v4 v157 v170 v175 v176) := rfl
/-- The body's term of sub-step 7: one cell on the state before it and its slab of the items. -/
theorem p7 : k0_pay35 (F := Ideal) a v4 v6 v8 v10 h = vcell (word a 7#32) v4 v6 v8 (extractStridedSlice S30x1024 ![0, 7168] v10 slices_S30x8192_o0_7168_S30x1024) h := rfl

end Cert.Own.Ker

end
-- ==== Proof.KV.Sts.lean ====
module

public import proofs.«01_k».proof.Proof.KV.Cell
public import Idealize.ShloMosaic.Lib.Pipeline.ValueKit
public import Idealize.ShloMosaic.Lib.Pipeline.ReadBack

@[expose] public section

set_option maxRecDepth 16384

noncomputable section

namespace Cert.Own.Ker

open Idealize.ShloMosaic Idealize.ShloMosaic.TcCoe Idealize.SL.Sem Cert.KernelIdeal Cert.KernelIdeal.Gen

/-- Time step `j` of a grid point's items. -/
def slab (v10 : FVec Ideal S30x8192 .bf16) (j : ℕ) : FVec Ideal S30x1024 .bf16 :=
  fun y => v10 (ix2 (y 0) ⟨min (1024 * j + (y 1).val) 8191, by omega⟩)

/-- It is the slice of 1024 lanes that starts at `1024 * j`. -/
theorem slab_eq (v10 : FVec Ideal S30x8192 .bf16) (j o : ℕ) (ho : o = 1024 * j) (hj : j < 8) (hs) :
    extractStridedSlice S30x1024 ![0, o] v10 hs = slab v10 j := by
  subst ho
  funext y
  idx_vars y
  pointwise [slab]
  exact congrArg v10 (congrArg (ix2 y0) (Fin.ext (by show 1024 * j + y1.val = min (1024 * j + y1.val) 8191; omega)))

/-- A grid point's hidden states: before it, and after each of its eight time steps. -/
def sts (a : BitVec 32) (v4 : IVec S1x1024 32) (v6 : FVec Ideal S96x30 .bf16) (v8 : FVec Ideal S96x30 .f32) (v10 : FVec Ideal S30x8192 .bf16) (h : FVec Ideal S30x1024 .f32) : ℕ → FVec Ideal S30x1024 .f32
  | 0 => h
  | j + 1 => vcell (word a (BitVec.ofNat 32 j)) v4 v6 v8 (slab v10 j) (sts a v4 v6 v8 v10 h j)

/-- A block of the hidden states' array, eight time steps side by side. -/
def block (S : ℕ → FVec Ideal S30x1024 .f32) : Vec Ideal S1x30x8192 .bf16 :=
  fun y => S ((y 2).val / 1024 + 1) (ix2 (y 1) ⟨(y 2).val % 1024, by omega⟩)

/-- One time step as the kernel stores it. -/
def lift (x : FVec Ideal S30x1024 .f32) : FVec Ideal S1x30x1024 .bf16 := fun y => x (ix2 (y 1) (y 2))

section
variable (i : grid0.Coords) (a : BitVec 32) (v4 : IVec S1x1024 32) (v6 : FVec Ideal S96x30 .bf16) (v8 : FVec Ideal S96x30 .f32) (v10 : FVec Ideal S30x8192 .bf16) (h : FVec Ideal S30x1024 .f32)

/-- The body's term of the state after 1 sub-step is that state. -/
theorem e1 (v3 v5 v7 v9) : k0_pay8 (F := Ideal) i v3 v5 v7 v9 h = sts (BitVec.ofNat 32 (i 0).val) (k0_pay4 (F := Ideal) v3) (k0_pay5 v5) (k0_pay6 v7) (k0_pay7 v9) h 1 := by
  rw [p0, slab_eq _ 0 _ (by rfl) (by decide)]; rfl
/-- The body's term of the state after 2 sub-steps is that state. -/
theorem e2 : k0_pay11 (F := Ideal) a v4 v6 v8 v10 (sts a v4 v6 v8 v10 h 1) = sts a v4 v6 v8 v10 h 2 := by
  rw [p1, slab_eq _ 1 _ (by rfl) (by decide)]; rfl
/-- The body's term of the state after 3 sub-steps is that state. -/
theorem e3 : k0_pay18 (F := Ideal) a v4 (sts a v4 v6 v8 v10 h 2) (k0_pay16 a v4 v6 v8 v10 (sts a v4 v6 v8 v10 h 1)) (k0_pay17 a v4 v6 v8 v10 (sts a v4 v6 v8 v10 h 1)) = sts a v4 v6 v8 v10 h 3 := by
  rw [← e2, p2, slab_eq _ 2 _ (by rfl) (by decide), e2]; rfl
/-- The body's term of the state after 4 sub-steps is that state. -/
theorem e4 : k0_pay20 (F := Ideal) a v4 v6 v8 v10 (sts a v4 v6 v8 v10 h 2) (k0_pay16 a v4 v6 v8 v10 (sts a v4 v6 v8 v10 h 1)) (k0_pay17 a v4 v6 v8 v10 (sts a v4 v6 v8 v10 h 1)) = sts a v4 v6 v8 v10 h 4 := by
  rw [p3, e3, slab_eq _ 3 _ (by rfl) (by decide)]; rfl
/-- The body's term of the state after 5 sub-steps is that state. -/
theorem e5 : k0_pay23 (F := Ideal) a v4 v6 v8 v10 (sts a v4 v6 v8 v10 h 4) = sts a v4 v6 v8 v10 h 5 := by
  rw [p4, slab_eq _ 4 _ (by rfl) (by decide)]; rfl
/-- The body's term of the state after 6 sub-steps is that state. -/
theorem e6 : k0_pay31 (F := Ideal) a v4 (sts a v4 v6 v8 v10 h 5) (k0_pay28 a v4 v6 v8 v10 (sts a v4 v6 v8 v10 h 4)) (k0_pay29 a v4 v6 v8 v10 (sts a v4 v6 v8 v10 h 4)) k0_pay30 = sts a v4 v6 v8 v10 h 6 := by
  rw [← e5, p5, slab_eq _ 5 _ (by rfl) (by decide), e5]; rfl
/-- The body's term of the state after 7 sub-steps is that state. -/
theorem e7 : k0_pay33 (F := Ideal) a v4 v6 v8 v10 (sts a v4 v6 v8 v10 h 5) (k0_pay28 a v4 v6 v8 v10 (sts a v4 v6 v8 v10 h 4)) (k0_pay29 a v4 v6 v8 v10 (sts a v4 v6 v8 v10 h 4)) k0_pay30 = sts a v4 v6 v8 v10 h 7 := by
  rw [p6, e6, slab_eq _ 6 _ (by rfl) (by decide)]; rfl
/-- The body's term of the state after 8 sub-steps is that state. -/
theorem e8 : k0_pay35 (F := Ideal) a v4 v6 v8 v10 (sts a v4 v6 v8 v10 h 7) = sts a v4 v6 v8 v10 h 8 := by
  rw [p7, slab_eq _ 7 _ (by rfl) (by decide)]; rfl

/-- The slab the body stores is the state with a leading axis of length one. -/
theorem lift_eq (x : FVec Ideal S30x1024 .f32) : k0_pay10 (F := Ideal) x = lift x := by
  funext y
  idx_vars y
  pointwise [k0_pay10, lift]

/-- The slab sub-step 0 stores is the state after it. -/
theorem s0 (v3 v5 v7 v9) : k0_pay10 (k0_pay9 (F := Ideal) i v3 v5 v7 v9 h) = lift (sts (BitVec.ofNat 32 (i 0).val) (k0_pay4 (F := Ideal) v3) (k0_pay5 v5) (k0_pay6 v7) (k0_pay7 v9) h 1) := by
  rw [← e1, ← lift_eq]; rfl
/-- The slab sub-step 1 stores is the state after it. -/
theorem s1 : k0_pay12 (F := Ideal) a v4 v6 v8 v10 (sts a v4 v6 v8 v10 h 1) = lift (sts a v4 v6 v8 v10 h 2) := by
  rw [← e2, ← lift_eq]; rfl
/-- The slab sub-step 2 stores is the state after it. -/
theorem s2 : k0_pay19 (F := Ideal) a v4 (sts a v4 v6 v8 v10 h 2) (k0_pay16 a v4 v6 v8 v10 (sts a v4 v6 v8 v10 h 1)) (k0_pay17 a v4 v6 v8 v10 (sts a v4 v6 v8 v10 h 1)) = lift (sts a v4 v6 v8 v10 h 3) := by
  rw [← e3, ← lift_eq]; rfl
/-- The slab sub-step 3 stores is the state after it. -/
theorem s3 : k0_pay22 (k0_pay21 (F := Ideal) a v4 v6 v8 v10 (sts a v4 v6 v8 v10 h 2) (k0_pay16 a v4 v6 v8 v10 (sts a v4 v6 v8 v10 h 1)) (k0_pay17 a v4 v6 v8 v10 (sts a v4 v6 v8 v10 h 1))) = lift (sts a v4 v6 v8 v10 h 4) := by
  rw [← e4, ← lift_eq]; rfl
/-- The slab sub-step 4 stores is the state after it. -/
theorem s4 : k0_pay24 (F := Ideal) a v4 v6 v8 v10 (sts a v4 v6 v8 v10 h 4) = lift (sts a v4 v6 v8 v10 h 5) := by
  rw [← e5, ← lift_eq]; rfl
/-- The slab sub-step 5 stores is the state after it. -/
theorem s5 : k0_pay32 (F := Ideal) a v4 (sts a v4 v6 v8 v10 h 5) (k0_pay28 a v4 v6 v8 v10 (sts a v4 v6 v8 v10 h 4)) (k0_pay29 a v4 v6 v8 v10 (sts a v4 v6 v8 v10 h 4)) k0_pay30 = lift (sts a v4 v6 v8 v10 h 6) := by
  rw [← e6, ← lift_eq]; rfl
/-- The slab sub-step 6 stores is the state after it. -/
theorem s6 : k0_pay34 (F := Ideal) a v4 v6 v8 v10 (sts a v4 v6 v8 v10 h 5) (k0_pay28 a v4 v6 v8 v10 (sts a v4 v6 v8 v10 h 4)) (k0_pay29 a v4 v6 v8 v10 (sts a v4 v6 v8 v10 h 4)) k0_pay30 = lift (sts a v4 v6 v8 v10 h 7) := by
  rw [← e7, ← lift_eq]; rfl
/-- The slab sub-step 7 stores is the state after it. -/
theorem s7 : k0_pay36 (F := Ideal) a v4 v6 v8 v10 (sts a v4 v6 v8 v10 h 7) = lift (sts a v4 v6 v8 v10 h 8) := by
  rw [← e8, ← lift_eq]; rfl
/-- The slab sub-step 8 stores is the state after it. -/
theorem s8 : k0_pay37 (F := Ideal) a v4 v6 v8 v10 (sts a v4 v6 v8 v10 h 7) = sts a v4 v6 v8 v10 h 8 := by
  rw [← e8]
  funext y
  idx_vars y
  pointwise [k0_pay37]
end

/-- Equal numbers and coordinates read the same entry. -/
theorem reads (S : ℕ → FVec Ideal S30x1024 .f32) {n n' : ℕ} {d d' : Fin 30} {b b' : Fin 1024} (hn : n = n') (hd : d.val = d'.val)
    (hb : b.val = b'.val) : S n (ix2 d b) = S n' (ix2 d' b') := by
  obtain rfl := hn; obtain rfl := Fin.ext hd; obtain rfl := Fin.ext hb; rfl

/-- Each store is the block's own part. -/
theorem tile_at (S : ℕ → FVec Ideal S30x1024 .f32) (j : ℕ) (x : S1x30x1024.Idx) (y : S1x30x8192.Idx) (h1 : (y 1).val = (x 1).val)
    (h2 : (y 2).val = 1024 * j + (x 2).val) : lift (S (j + 1)) x = block S y := by
  have hx : (x 2).val < 1024 := (x 2).isLt
  exact reads S (by omega) h1.symm (by show (x 2).val = (y 2).val % 1024; omega)

/-- The eight stores of a grid point leave the block of its hidden states. -/
theorem tiles (S : ℕ → FVec Ideal S30x1024 .f32) : View.canon (Val := Elt Ideal) (e := .bf16)
    [⟨Rect.unit ![0, 0, 7168] ![1, 30, 1024] inb_S1x30x8192_S1x30x1024_0_0_7168, lift (S 8)⟩,
     ⟨Rect.unit ![0, 0, 6144] ![1, 30, 1024] inb_S1x30x8192_S1x30x1024_0_0_6144, lift (S 7)⟩,
     ⟨Rect.unit ![0, 0, 5120] ![1, 30, 1024] inb_S1x30x8192_S1x30x1024_0_0_5120, lift (S 6)⟩,
     ⟨Rect.unit ![0, 0, 4096] ![1, 30, 1024] inb_S1x30x8192_S1x30x1024_0_0_4096, lift (S 5)⟩,
     ⟨Rect.unit ![0, 0, 3072] ![1, 30, 1024] inb_S1x30x8192_S1x30x1024_0_0_3072, lift (S 4)⟩,
     ⟨Rect.unit ![0, 0, 2048] ![1, 30, 1024] inb_S1x30x8192_S1x30x1024_0_0_2048, lift (S 3)⟩,
     ⟨Rect.unit ![0, 0, 1024] ![1, 30, 1024] inb_S1x30x8192_S1x30x1024_0_0_1024, lift (S 2)⟩,
     ⟨Rect.unit ![0, 0, 0] ![1, 30, 1024] inb_S1x30x8192_S1x30x1024_0_0_0, lift (S 1)⟩] = block S := by
  funext y
  canon_tiles x h
  · exact tile_at S 7 x y h1 h2
  · exact tile_at S 6 x y h1 h2
  · exact tile_at S 5 x y h1 h2
  · exact tile_at S 4 x y h1 h2
  · exact tile_at S 3 x y h1 h2
  · exact tile_at S 2 x y h1 h2
  · exact tile_at S 1 x y h1 h2
  · exact tile_at S 0 x y h1 (by omega)

/-- A grid point's hidden states are the recurrence's, when the point starts from the recurrence's state at its first step. -/
theorem sts_at (Wi Wh : Fin 30 → Fin 90 → EReal) (x : Fin 1024 → ℕ → Fin 30 → EReal) (len : Fin 1024 → BitVec 32) (n : ℕ) (a : BitVec 32) (v4 : IVec S1x1024 32) (v6 : FVec Ideal S96x30 .bf16)
    (v8 : FVec Ideal S96x30 .f32) (v10 : FVec Ideal S30x8192 .bf16) (h : FVec Ideal S30x1024 .f32)
    (h6 : ∀ (s : Fin 3) (d k : Fin 30), v6 (ix2 ⟨32 * s.val + d.val, by omega⟩ k) = Wi k ⟨30 * s.val + d.val, by omega⟩)
    (h8 : ∀ (s : Fin 3) (d k : Fin 30), v8 (ix2 ⟨32 * s.val + d.val, by omega⟩ k) = Wh k ⟨30 * s.val + d.val, by omega⟩)
    (h4 : ∀ b, v4 (ix2 0 b) = len b) (ha : ∀ j < 8, word a (BitVec.ofNat 32 j) = BitVec.ofNat 32 (n + j))
    (h10 : ∀ (k : Fin 30) (l : Fin 8192), v10 (ix2 k l) = x ⟨l.val % 1024, by omega⟩ (n + l.val / 1024) k)
    (hh : ∀ d b, h (ix2 d b) = hid Wi Wh (x b) (len b) n d) :
    ∀ j ≤ 8, ∀ d b, sts a v4 v6 v8 v10 h j (ix2 d b) = hid Wi Wh (x b) (len b) (n + j) d := by
  intro j
  induction j with
  | zero => intro _ d b; exact hh d b
  | succ j ih =>
    intro hj d b
    have hx : (fun k => slab v10 j (ix2 k b)) = x b (n + j) := by
      funext k
      refine (h10 k ⟨min (1024 * j + b.val) 8191, by omega⟩).trans ?_
      have hb : b.val < 1024 := b.isLt
      have e1 : min (1024 * j + b.val) 8191 % 1024 = b.val := by omega
      have e2 : min (1024 * j + b.val) 8191 / 1024 = j := by omega
      show x ⟨min (1024 * j + b.val) 8191 % 1024, _⟩ (n + min (1024 * j + b.val) 8191 / 1024) k = _
      simp only [e1, e2]
    have ihj := ih (by omega)
    show vcell _ v4 v6 v8 (slab v10 j) (sts a v4 v6 v8 v10 h j) (ix2 d b) = _
    rw [vcell_at Wi Wh _ v4 v6 v8 h6 h8, hx, ha j (by omega), h4, ihj d b, show (fun k => sts a v4 v6 v8 v10 h j (ix2 k b)) = _ from funext fun k => ihj k b]
    rfl

end Cert.Own.Ker

end
-- ==== Proof.KV.Net.lean ====
module

public import proofs.«01_k».proof.Proof.KV.Sts
public import proofs.«01_k».proof.Proof.Nls

@[expose] public section

set_option maxRecDepth 16384

noncomputable section

namespace Cert.Own.Ker

open Idealize.ShloMosaic Idealize.ShloMosaic.TcCoe Idealize.SL.Sem Cert.KernelIdeal Cert.KernelIdeal.Gen

/-- The attention score as the kernel computes it from a block of hidden states. -/
theorem score_at (T1 : Fin 30 → Fin 40 → EReal) (tb1 T2 : Fin 40 → EReal) (tb2 : EReal) (B : Vec Ideal S1x30x8192 .bf16) (tgt : Vec Ideal S30x8192 .f32)
    (v261 : Vec Ideal S40x30 .f32) (v264 : Vec Ideal S40x1 .f32) (v269 : Vec Ideal S1x40 .f32) (v272 : Vec Ideal S1x1 .f32)
    (h1 : ∀ a k, v261 (ix2 a k) = T1 k a) (h2 : ∀ a, v264 (ix2 a 0) = tb1 a) (h3 : ∀ a, v269 (ix2 0 a) = T2 a) (h4 : v272 (ix2 0 0) = tb2) (j : Fin 8) (b : Fin 1024) :
    k0_pay41 (F := Ideal) (k0_pay39 B tgt) (k0_pay40 v261) v264 v269 v272 (ix2 j b)
      = score T1 tb1 T2 tb2 (fun k => tgt (ix2 k ⟨j.val * 1024 + b.val, by omega⟩)) (fun k => B (ix3 0 k ⟨j.val * 1024 + b.val, by omega⟩)) := by
  have e : score T1 tb1 T2 tb2 (fun k => tgt (ix2 k ⟨j.val * 1024 + b.val, by omega⟩)) (fun k => B (ix3 0 k ⟨j.val * 1024 + b.val, by omega⟩))
      = (∑ a : Fin 40, v269 (ix2 0 a) * Ideal.logistic ((∑ k : Fin 30, v261 (ix2 a k) * (B (ix3 0 k ⟨j.val * 1024 + b.val, by omega⟩) * tgt (ix2 k ⟨j.val * 1024 + b.val, by omega⟩))) + v264 (ix2 a 0))) + v272 (ix2 0 0) := by
    unfold score
    rw [h4]
    refine congrArg (· + tb2) (Finset.sum_congr rfl fun a _ => ?_)
    rw [h3, h2, mul_comm]
    refine congrArg (fun z => T2 a * Ideal.logistic (z + tb1 a)) (Finset.sum_congr rfl fun k _ => ?_)
    rw [h1, mul_comm, mul_comm (tgt _)]
  rw [e]
  clear e
  pointwise [k0_pay41, k0_pay40, k0_pay39, k0_pay38]

/-- The previous hidden state, as a hidden state per lane: the states shifted by one time step. -/
theorem prev_at (v11 : Vec Ideal S30x1024 .f32) (v256 : FVec Ideal S30x8192 .bf16) (v281 : Vec Ideal S32x30 .bf16) (a : Fin 32) (l : Fin 8192) :
    k0_pay42 (F := Ideal) v11 v256 v281 (ix2 a l)
      = ∑ k : Fin 30, v281 (ix2 a k) * (if h : l.val < 1024 then v11 (ix2 k ⟨l.val, h⟩) else v256 (ix2 k ⟨l.val - 1024, by omega⟩)) := by
  pointwise [k0_pay42]

/-- The negated logarithm of the sigmoid in the kernel's spelling. -/
theorem nls_spell (x : EReal) : 0 - (min x 0 - Ideal.log1p (Ideal.exp (0 - FloatOps.absf (F := Ideal) (φ := .f32) x))) = -(min x 0 - Ideal.log1p (Ideal.exp (-max x (-x)))) := by
  rw [zero_sub, zero_sub]
  rfl

/-- The auxiliary network from its first layer's sums on. -/
def net (A2 : Fin 32 → Fin 16 → EReal) (b2 A3 : Fin 16 → EReal) (b3 : EReal) (f : Fin 32 → EReal) : EReal :=
  (∑ c : Fin 16, Ideal.logistic ((∑ a : Fin 32, Ideal.logistic (f a) * A2 a c) + b2 c) * A3 c) + b3

section
variable (A2 : Fin 32 → Fin 16 → EReal) (b2 A3 : Fin 16 → EReal) (b3 : EReal) (v302 : Vec Ideal S16x32 .f32) (v304 : Vec Ideal S16x1 .f32) (v314 : Vec Ideal S1x16 .f32) (v316 : Vec Ideal S1x1 .f32)
  (h1 : ∀ c a, v302 (ix2 c a) = A2 a c) (h2 : ∀ c, v304 (ix2 c 0) = b2 c) (h3 : ∀ c, v314 (ix2 0 c) = A3 c) (h4 : v316 (ix2 0 0) = b3)
include h1 h2 h3 h4

/-- The same with the weights as the kernel holds them. -/
theorem net_eq (f : Fin 32 → EReal) : net A2 b2 A3 b3 f
    = (∑ c : Fin 16, v314 (ix2 0 c) * Ideal.logistic ((∑ a : Fin 32, v302 (ix2 c a) * Ideal.logistic (f a)) + v304 (ix2 c 0))) + v316 (ix2 0 0) := by
  unfold net
  rw [h4]
  refine congrArg (· + b3) (Finset.sum_congr rfl fun c _ => ?_)
  rw [h3, h2, mul_comm]
  refine congrArg (fun z => A3 c * Ideal.logistic (z + b2 c)) (Finset.sum_congr rfl fun a _ => ?_)
  rw [h1, mul_comm]

/-- The positive item's term. -/
theorem pos_at (v10 : FVec Ideal S30x8192 .bf16) (v11 : Vec Ideal S30x1024 .f32) (v256 : FVec Ideal S30x8192 .bf16) (v281 v284 : Vec Ideal S32x30 .bf16) (v292 : Vec Ideal S32x1 .f32) (l : Fin 8192) :
    k0_pay50 (F := Ideal) (k0_pay45 v10 v11 v256 v281 v284 v292) v302 v304 v314 v316 (ix2 0 l)
      = nls (net A2 b2 A3 b3 fun a => k0_pay42 (F := Ideal) v11 v256 v281 (ix2 a l) + (∑ k : Fin 30, v284 (ix2 a k) * v10 (ix2 k l)) + v292 (ix2 a 0)) := by
  rw [net_eq A2 b2 A3 b3 v302 v304 v314 v316 h1 h2 h3 h4]
  clear h1 h2 h3 h4
  unfold nls
  pointwise [k0_pay50, k0_pay49, k0_pay48, k0_pay47, k0_pay46, k0_pay45, k0_pay44]
  exact nls_spell _
end

end Cert.Own.Ker

end
-- ==== Proof.KV.Net2.lean ====
module

public import proofs.«01_k».proof.Proof.KV.Net
public import proofs.«01_k».proof.Proof.Nls

@[expose] public section

set_option maxRecDepth 16384

noncomputable section

namespace Cert.Own.Ker

open Idealize.ShloMosaic Idealize.ShloMosaic.TcCoe Idealize.SL.Sem Cert.KernelIdeal Cert.KernelIdeal.Gen

/-- The floor quotient by 1024 as the kernel spells it, of a lane's number. -/
def laneQ (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 1024#32 0#32)) (Scalar.extui (Scalar.cmpi CmpIPredicate.slt 1024#32 0#32))))
      (IntOp.cmpi CmpIPredicate.ne (IntOp.remsi ArithUnit.vector x 1024#32) 0#32))
    (IntOp.subi (IntOp.divsi ArithUnit.vector x 1024#32) 1#32)
    (IntOp.divsi ArithUnit.vector x 1024#32)

/-- It is the quotient. -/
theorem laneQ_eq : ∀ l : Fin 8192, laneQ (BitVec.ofNat 32 l.val) = BitVec.ofNat 32 (l.val / 1024) := by decide +kernel

/-- The time step of a lane in a block's words. -/
theorem word_eq : ∀ (t : Fin 25) (j : Fin 8), IntOp.addi (BitVec.ofNat 32 j.val) (IntOp.muli (BitVec.ofNat 32 t.val) 8#32) = BitVec.ofNat 32 (8 * t.val + j.val) := by decide +kernel

/-- The loss vector after a block: the one before plus the masked sum of the two terms. -/
theorem sum_at (a : BitVec 32) (v333 v337 v338 v339 : FVec Ideal S1x8192 .f32) (v377 : Vec Ideal S1x8192 .i32) (v381 : Vec Ideal S1x8192 .f32) (l : Fin 8192) :
    k0_pay1 (F := Ideal) (k0_pay55 v381) (k0_pay56 a v333 v337 v338 v339 v377) (ix2 0 l)
      = v381 (ix2 0 l) + Scalar.select (IntOp.andi (IntOp.cmpi .sge (IntOp.addi (laneQ (BitVec.ofNat 32 l.val)) (IntOp.muli a 8#32)) 1#32) (IntOp.cmpi .slt (IntOp.addi (laneQ (BitVec.ofNat 32 l.val)) (IntOp.muli a 8#32)) (v377 (ix2 0 l))))
         (v333 (ix2 0 l) + (0 - (v337 (ix2 0 l) - Ideal.log1p (Ideal.exp (v339 (ix2 0 l) - v338 (ix2 0 l)))))) 0 := by
  pointwise [k0_pay1, k0_pay55, k0_pay56]
  rfl

/-- The pieces of the negative item's term. -/
theorem min_at (v283 v291 : FVec Ideal S32x8192 .f32) (v293 : FVec Ideal S32x1 .f32) (v302 : Vec Ideal S16x32 .f32) (v304 : Vec Ideal S16x1 .f32) (v314 : Vec Ideal S1x16 .f32) (v316 : Vec Ideal S1x1 .f32) (l : Fin 8192) :
    k0_pay52 (F := Ideal) v283 v291 v293 v302 v304 v314 v316 (ix2 0 l) = min (k0_pay51 (F := Ideal) v283 v291 v293 v302 v304 v314 v316 (ix2 0 l)) 0 := by
  pointwise [k0_pay52]

/-- A zero vector at a lane. -/
theorem zero_at (l : Fin 8192) : k0_pay54 (F := Ideal) (ix2 0 l) = 0 := by
  pointwise [k0_pay54]

/-- The negative item's contribution to a layer. -/
theorem item_at (v287 : Vec Ideal S32x30 .bf16) (v289 : Vec Ideal S1x30x8192 .bf16) (a : Fin 32) (l : Fin 8192) :
    k0_pay43 (F := Ideal) v287 v289 (ix2 a l) = ∑ k : Fin 30, v287 (ix2 a k) * v289 (ix3 0 k l) := by
  pointwise [k0_pay43]

/-- The bias. -/
theorem bias_at (v292 : Vec Ideal S32x1 .f32) (a : Fin 32) : k0_pay44 (F := Ideal) v292 (ix2 a 0) = v292 (ix2 a 0) := by
  pointwise [k0_pay44]

section
variable (A2 : Fin 32 → Fin 16 → EReal) (b2 A3 : Fin 16 → EReal) (b3 : EReal) (v302 : Vec Ideal S16x32 .f32) (v304 : Vec Ideal S16x1 .f32) (v314 : Vec Ideal S1x16 .f32) (v316 : Vec Ideal S1x1 .f32)
  (h1 : ∀ c a, v302 (ix2 c a) = A2 a c) (h2 : ∀ c, v304 (ix2 c 0) = b2 c) (h3 : ∀ c, v314 (ix2 0 c) = A3 c) (h4 : v316 (ix2 0 0) = b3)
include h1 h2 h3 h4

/-- The negative item's output, negated. -/
theorem neg_at (v283 v291 : FVec Ideal S32x8192 .f32) (v293 : FVec Ideal S32x1 .f32) (l : Fin 8192) :
    k0_pay51 (F := Ideal) v283 v291 v293 v302 v304 v314 v316 (ix2 0 l) = -(net A2 b2 A3 b3 fun a => v283 (ix2 a l) + v291 (ix2 a l) + v293 (ix2 a 0)) := by
  rw [net_eq A2 b2 A3 b3 v302 v304 v314 v316 h1 h2 h3 h4]
  clear h1 h2 h3 h4
  pointwise [k0_pay51, k0_pay49, k0_pay48, k0_pay47, k0_pay46]
  exact zero_sub _

/-- The loss vector after a block, in the words of the specification. -/
theorem loss_at (A1 : Fin 60 → Fin 32 → EReal) (b1 : Fin 32 → EReal) (t : Fin 25) (a : BitVec 32) (ha : a = BitVec.ofNat 32 t.val) (v10 : FVec Ideal S30x8192 .bf16) (v289 : Vec Ideal S1x30x8192 .bf16)
    (v11 : Vec Ideal S30x1024 .f32) (v256 : FVec Ideal S30x8192 .bf16) (v281 v284 : Vec Ideal S32x30 .bf16) (v292 : Vec Ideal S32x1 .f32) (v377 : Vec Ideal S1x8192 .i32) (v381 : Vec Ideal S1x8192 .f32)
    (h5 : ∀ a (k : Fin 30), v281 (ix2 a k) = A1 ⟨k.val, by omega⟩ a) (h6 : ∀ a (k : Fin 30), v284 (ix2 a k) = A1 ⟨30 + k.val, by omega⟩ a) (h7 : ∀ a, v292 (ix2 a 0) = b1 a)
    (l : Fin 8192) (hp : Fin 30 → EReal) (hhp : ∀ k, (if h : l.val < 1024 then v11 (ix2 k ⟨l.val, h⟩) else v256 (ix2 k ⟨l.val - 1024, by omega⟩)) = hp k) :
    k0_pay1 (F := Ideal) (k0_pay55 v381) (k0_pay56 a (k0_pay50 (k0_pay45 v10 v11 v256 v281 v284 v292) v302 v304 v314 v316)
        (k0_pay52 (k0_pay42 v11 v256 v281) (k0_pay43 v284 v289) (k0_pay44 v292) v302 v304 v314 v316)
        (k0_pay53 (k0_pay42 v11 v256 v281) (k0_pay43 v284 v289) (k0_pay44 v292) v302 v304 v314 v316) k0_pay54 v377) (ix2 0 l)
      = v381 (ix2 0 l) + term (8 * t.val + l.val / 1024) (v377 (ix2 0 l)) (aux A1 b1 A2 b2 A3 b3 hp (fun k => v10 (ix2 k l))) (aux A1 b1 A2 b2 A3 b3 hp (fun k => v289 (ix3 0 k l))) := by
  have hf : ∀ a : Fin 32, k0_pay42 (F := Ideal) v11 v256 v281 (ix2 a l) = ∑ k : Fin 30, hp k * A1 ⟨k.val, by omega⟩ a := fun a => by
    rw [prev_at]
    exact Finset.sum_congr rfl fun k _ => by rw [hhp, h5, mul_comm]
  have hpos : (net A2 b2 A3 b3 fun a => k0_pay42 (F := Ideal) v11 v256 v281 (ix2 a l) + (∑ k : Fin 30, v284 (ix2 a k) * v10 (ix2 k l)) + v292 (ix2 a 0))
      = aux A1 b1 A2 b2 A3 b3 hp (fun k => v10 (ix2 k l)) := by
    refine congrArg (net A2 b2 A3 b3) (funext fun a => ?_)
    rw [hf, h7]
    refine congrArg (fun z => _ + z + b1 a) (Finset.sum_congr rfl fun k _ => ?_)
    rw [h6, mul_comm]
  have hneg : (net A2 b2 A3 b3 fun a => k0_pay42 (F := Ideal) v11 v256 v281 (ix2 a l) + k0_pay43 (F := Ideal) v284 v289 (ix2 a l) + k0_pay44 (F := Ideal) v292 (ix2 a 0))
      = aux A1 b1 A2 b2 A3 b3 hp (fun k => v289 (ix3 0 k l)) := by
    refine congrArg (net A2 b2 A3 b3) (funext fun a => ?_)
    rw [hf, bias_at, h7, item_at]
    refine congrArg (fun z => _ + z + b1 a) (Finset.sum_congr rfl fun k _ => ?_)
    rw [h6, mul_comm]
  have hn := neg_at A2 b2 A3 b3 v302 v304 v314 v316 h1 h2 h3 h4 (k0_pay42 (F := Ideal) v11 v256 v281) (k0_pay43 (F := Ideal) v284 v289) (k0_pay44 (F := Ideal) v292) l
  rw [hneg] at hn
  rw [sum_at, pos_at A2 b2 A3 b3 v302 v304 v314 v316 h1 h2 h3 h4, hpos, min_at, zero_at, hn, laneQ_eq, ha, word_eq t ⟨l.val / 1024, by omega⟩]
  show _ + Scalar.select _ (_ + (0 - (_ - Ideal.log1p (Ideal.exp (0 - FloatOps.absf (F := Ideal) (φ := .f32) (k0_pay51 (F := Ideal) (k0_pay42 (F := Ideal) v11 v256 v281) (k0_pay43 (F := Ideal) v284 v289) (k0_pay44 (F := Ideal) v292) v302 v304 v314 v316 (ix2 0 l))))))) 0 = _
  rw [hn, nls_spell]
  rfl
end

end Cert.Own.Ker

end
-- ==== Proof.KV.Point.lean ====
module

public import proofs.«01_k».proof.Proof.KI.Value
public import proofs.«01_k».proof.Proof.KV.Sts
public import proofs.«01_k».proof.Proof.KV.Net2
public import Idealize.ShloMosaic.Lib.Pipeline.ValueKit
public import Idealize.ShloMosaic.Lib.Pipeline.ReadBack

@[expose] public section

set_option maxRecDepth 16384

noncomputable section

namespace Cert.Own.Ker

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

/-- The hidden states of grid point `t` from the state `h` before it. -/
abbrev St (t : Fin cfg0.N) (h : FVec Ideal S30x1024 .f32) : ℕ → FVec Ideal S30x1024 .f32 :=
  sts (BitVec.ofNat 32 (grid0.coords t 0).val) (k0_pay4 (F := Ideal) (iblk m c 3 t)) (k0_pay5 (F := Ideal) (iblk m c 5 t)) (k0_pay6 (F := Ideal) (iblk m c 6 t)) (k0_pay7 (F := Ideal) (iblk m c 0 t)) h

/-- The scores grid point `t` stores. -/
abbrev Sc (t : Fin cfg0.N) (h : FVec Ideal S30x1024 .f32) : FVec Ideal S8x1024 .f32 :=
  k0_pay41 (F := Ideal) (k0_pay39 (block (St m c t h)) (iblk m c 2 t)) (k0_pay40 (iblk m c 14 t)) (iblk m c 15 t) (iblk m c 16 t) (iblk m c 17 t)

/-- The loss vector grid point `t` stores, from the one before it. -/
abbrev Ls (t : Fin cfg0.N) (h : FVec Ideal S30x1024 .f32) (s : FVec Ideal S1x8192 .f32) : FVec Ideal S1x8192 .f32 :=
  k0_pay1 (F := Ideal) (k0_pay55 s) (k0_pay56 (BitVec.ofNat 32 (grid0.coords t 0).val)
    (k0_pay50 (k0_pay45 (k0_pay7 (F := Ideal) (iblk m c 0 t)) h (k0_pay38 (block (St m c t h))) (iblk m c 7 t) (iblk m c 8 t) (iblk m c 9 t)) (iblk m c 10 t) (iblk m c 11 t) (iblk m c 12 t) (iblk m c 13 t))
    (k0_pay52 (k0_pay42 h (k0_pay38 (block (St m c t h))) (iblk m c 7 t)) (k0_pay43 (iblk m c 8 t) (iblk m c 1 t)) (k0_pay44 (iblk m c 9 t)) (iblk m c 10 t) (iblk m c 11 t) (iblk m c 12 t) (iblk m c 13 t))
    (k0_pay53 (k0_pay42 h (k0_pay38 (block (St m c t h))) (iblk m c 7 t)) (k0_pay43 (iblk m c 8 t) (iblk m c 1 t)) (k0_pay44 (iblk m c 9 t)) (iblk m c 10 t) (iblk m c 11 t) (iblk m c 12 t) (iblk m c 13 t))
    k0_pay54 (iblk m c 4 t))

/-- The rectangle of the whole block names each of its indices by itself. -/
theorem whole_idx (j : S1x30x8192.Idx) : (Rect.unit ![0, 0, 0] ![1, 30, 8192] inb_S1x30x8192_S1x30x8192_0_0_0).toLoadRect.idx j = j := by
  funext a
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

/-- A state of all zeros, with which a row starts. -/
abbrev Z : FVec Ideal S30x1024 .f32 := k0_pay2 (F := Ideal)

/-- What a point of the first kind leaves: it starts from the zero state and a zero loss vector. -/
theorem point_A (t : Fin cfg0.N) (acc) (h : t.val % 25 = 0) :
    stAt0 m c t.val t.isLt acc = (block (St m c t Z), Sc m c t Z, Ls m c t Z (k0_pay3 (F := Ideal)), St m c t Z 8) := by
  rw [stAt0_A m c t acc h]
  refine Prod.ext ?_ (Prod.ext ?_ (Prod.ext ?_ ?_)) <;>
  · frame_open
    simp (disch := decide) only [↓ View.readCov_skip, ↓ View.readCov_cons_toLoadRect, ↓ View.readCov_fill]
    frame_out
    simp only [read_unread_whole, e1, e2, e3, e4, e5, e6, e7, e8, s0, s1, s2, s3, s4, s5, s6, s7, s8, View.readCov_eq_canon', tiles, whole_idx]
    first | rfl | skip

/-- What a later point leaves, from what the one before left. -/
theorem point_B (t : Fin cfg0.N) (acc) (h : ¬t.val % 25 = 0) :
    stAt0 m c t.val t.isLt acc = (block (St m c t acc.2.2.2), Sc m c t acc.2.2.2, Ls m c t acc.2.2.2 acc.2.2.1, St m c t acc.2.2.2 8) := by
  rw [stAt0_B m c t acc h]
  refine Prod.ext ?_ (Prod.ext ?_ (Prod.ext ?_ ?_)) <;>
  · frame_open
    simp (disch := decide) only [↓ View.readCov_skip, ↓ View.readCov_cons_toLoadRect, ↓ View.readCov_fill]
    frame_out
    simp only [read_unread_whole, e1, e2, e3, e4, e5, e6, e7, e8, s0, s1, s2, s3, s4, s5, s6, s7, s8, View.readCov_eq_canon', tiles, whole_idx]
    first | rfl | skip

end Cert.Own.Ker

end
-- ==== Proof.KV.Gates.lean ====
module

public import proofs.«01_k».proof.Proof.KI.Value
public import proofs.«01_k».proof.Proof.KV.Point
public import proofs.«01_k».proof.Proof.KV.Net2
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Own.Ker

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

/-- The blocks each window reads, over the grid. -/
theorem idx : ∀ t : Fin cfg0.N, win0_0.index t = ![t.val, 0, 0] ∧ win0_1.index t = ![t.val, 0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![0, 0] ∧ (grid0.coords t 0).val = t.val :=
  (by decide +kernel : ∀ t : Fin grid0.N, _)

set_option maxHeartbeats 1600000 in
/-- The input weights' host array: the three gates' blocks, each padded to 32 rows. -/
theorem w5 (s : Fin 3) (d k : Fin 30) : V m c main_v22 (ix2 ⟨32 * s.val + d.val, by omega⟩ k) = m ((c : Thread nD τ).loc main_arg4) (ix2 k ⟨30 * s.val + d.val, by omega⟩) := by
  unfold V
  after_reads_simp
  pointwise
  after_reads_simp
  pointwise
  have hs := s.isLt
  have hd := d.isLt
  obtain h | h | h : s.val = 0 ∨ s.val = 1 ∨ s.val = 2 := by omega
  all_goals
    simp only [h]
    split_ifs <;> first | omega | skip
    exact congrArg (fun z => m (c, Proc.tc.devRef main_arg4) (ix2 k z)) (Fin.ext (by first | omega | (simp only; omega) | simp only))

/-- The input weights as a grid point reads them. -/
theorem r5 (t : Fin cfg0.N) (s : Fin 3) (d k : Fin 30) : (show Vec Ideal S96x30 .bf16 from iblk m c 5 t) (ix2 ⟨32 * s.val + d.val, by omega⟩ k) = m ((c : Thread nD τ).loc main_arg4) (ix2 k ⟨30 * s.val + d.val, by omega⟩) := by
  refine Eq.trans ?_ (w5 m c s d k)
  blk_simp [iblk, idx t]
  blk_ext [idx t]

set_option maxHeartbeats 1600000 in
/-- The hidden weights' host array: the three gates' blocks, each padded to 32 rows. -/
theorem w6 (s : Fin 3) (d k : Fin 30) : V m c main_v28 (ix2 ⟨32 * s.val + d.val, by omega⟩ k) = m ((c : Thread nD τ).loc main_arg5) (ix2 k ⟨30 * s.val + d.val, by omega⟩) := by
  unfold V
  after_reads_simp
  pointwise
  after_reads_simp
  pointwise
  have hs := s.isLt
  have hd := d.isLt
  obtain h | h | h : s.val = 0 ∨ s.val = 1 ∨ s.val = 2 := by omega
  all_goals
    simp only [h]
    split_ifs <;> first | omega | skip
    exact congrArg (fun z => m (c, Proc.tc.devRef main_arg5) (ix2 k z)) (Fin.ext (by first | omega | (simp only; omega) | simp only))

/-- The hidden weights as a grid point reads them. -/
theorem r6 (t : Fin cfg0.N) (s : Fin 3) (d k : Fin 30) : (show Vec Ideal S96x30 .f32 from iblk m c 6 t) (ix2 ⟨32 * s.val + d.val, by omega⟩ k) = m ((c : Thread nD τ).loc main_arg5) (ix2 k ⟨30 * s.val + d.val, by omega⟩) := by
  refine Eq.trans ?_ (w6 m c s d k)
  blk_simp [iblk, idx t]
  blk_ext [idx t]

end Cert.Own.Ker

end
-- ==== Proof.KV.Opd.lean ====
module

public import proofs.«01_k».proof.Proof.KI.Value
public import proofs.«01_k».proof.Proof.KV.Gates
public import proofs.«01_k».proof.Proof.KV.Net2
public import Idealize.ShloMosaic.Lib.Pipeline.ValueKit
public import Idealize.ShloMosaic.Lib.Pipeline.ReadBack

@[expose] public section

set_option maxRecDepth 16384

noncomputable section

namespace Cert.Own.Ker

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

set_option maxHeartbeats 2000000 in
/-- The item sequences, the target items and the lengths as a grid point reads them. -/
theorem seqs (t : Fin cfg0.N) : (∀ (k : Fin 30) (l : Fin 8192), (show Vec Ideal S1x30x8192 .bf16 from iblk m c 0 t) (ix3 0 k l) = m ((c : Thread nD τ).loc main_arg0) (ix3 ⟨l.val % 1024, by omega⟩ ⟨8 * t.val + l.val / 1024, by have : t.val < 25 := t.isLt; omega⟩ k))
    ∧ (∀ (k : Fin 30) (l : Fin 8192), (show Vec Ideal S1x30x8192 .bf16 from iblk m c 1 t) (ix3 0 k l) = m ((c : Thread nD τ).loc main_arg1) (ix3 ⟨l.val % 1024, by omega⟩ ⟨8 * t.val + l.val / 1024, by have : t.val < 25 := t.isLt; omega⟩ k))
    ∧ (∀ (k : Fin 30) (l : Fin 8192), (show Vec Ideal S30x8192 .f32 from iblk m c 2 t) (ix2 k l) = m ((c : Thread nD τ).loc main_arg2) (ix2 ⟨l.val % 1024, by omega⟩ k))
    ∧ (∀ b : Fin 1024, (show Vec Ideal S1x1024 .i32 from iblk m c 3 t) (ix2 0 b) = m ((c : Thread nD τ).loc main_arg3) (ix1 b))
    ∧ (∀ l : Fin 8192, (show Vec Ideal S1x8192 .i32 from iblk m c 4 t) (ix2 0 l) = m ((c : Thread nD τ).loc main_arg3) (ix1 ⟨l.val % 1024, by omega⟩)) := by
  refine ⟨?_, ?_, ?_, ?_, ?_⟩ <;> intros <;>
  · blk_simp [iblk, idx t]
    unfold V
    after_reads_simp
    pointwise
    first | done | blk_ext [iblk, V, idx t]

set_option maxHeartbeats 2000000 in
/-- The auxiliary network's weights as a grid point reads them. -/
theorem auxs (t : Fin cfg0.N) : (∀ (a : Fin 32) (k : Fin 30), (show Vec Ideal S32x30 .bf16 from iblk m c 7 t) (ix2 a k) = m ((c : Thread nD τ).loc main_arg6) (ix2 ⟨k.val, by omega⟩ a))
    ∧ (∀ (a : Fin 32) (k : Fin 30), (show Vec Ideal S32x30 .bf16 from iblk m c 8 t) (ix2 a k) = m ((c : Thread nD τ).loc main_arg6) (ix2 ⟨30 + k.val, by omega⟩ a))
    ∧ (∀ a : Fin 32, (show Vec Ideal S32x1 .f32 from iblk m c 9 t) (ix2 a 0) = m ((c : Thread nD τ).loc main_arg7) (ix1 a))
    ∧ (∀ (x : Fin 16) (a : Fin 32), (show Vec Ideal S16x32 .f32 from iblk m c 10 t) (ix2 x a) = m ((c : Thread nD τ).loc main_arg8) (ix2 a x))
    ∧ (∀ x : Fin 16, (show Vec Ideal S16x1 .f32 from iblk m c 11 t) (ix2 x 0) = m ((c : Thread nD τ).loc main_arg9) (ix1 x))
    ∧ (∀ x : Fin 16, (show Vec Ideal S1x16 .f32 from iblk m c 12 t) (ix2 0 x) = m ((c : Thread nD τ).loc main_arg10) (ix2 x 0))
    ∧ ((show Vec Ideal S1x1 .f32 from iblk m c 13 t) (ix2 0 0) = m ((c : Thread nD τ).loc main_arg11) (ix1 0)) := by
  refine ⟨?_, ?_, ?_, ?_, ?_, ?_, ?_⟩ <;> intros <;>
  · blk_simp [iblk, idx t]
    unfold V
    after_reads_simp
    pointwise
    first | done | blk_ext [iblk, V, idx t]

set_option maxHeartbeats 2000000 in
/-- The score network's weights as a grid point reads them. -/
theorem scs (t : Fin cfg0.N) : (∀ (a : Fin 40) (k : Fin 30), (show Vec Ideal S40x30 .f32 from iblk m c 14 t) (ix2 a k) = m ((c : Thread nD τ).loc main_arg12) (ix2 k a))
    ∧ (∀ a : Fin 40, (show Vec Ideal S40x1 .f32 from iblk m c 15 t) (ix2 a 0) = m ((c : Thread nD τ).loc main_arg13) (ix1 a))
    ∧ (∀ a : Fin 40, (show Vec Ideal S1x40 .f32 from iblk m c 16 t) (ix2 0 a) = m ((c : Thread nD τ).loc main_arg14) (ix2 a 0))
    ∧ ((show Vec Ideal S1x1 .f32 from iblk m c 17 t) (ix2 0 0) = m ((c : Thread nD τ).loc main_arg15) (ix1 0)) := by
  refine ⟨?_, ?_, ?_, ?_⟩ <;> intros <;>
  · blk_simp [iblk, idx t]
    unfold V
    after_reads_simp
    pointwise
    first | done | blk_ext [iblk, V, idx t]

end Cert.Own.Ker

end
-- ==== Proof.RefStep.lean ====
module

public import proofs.«01_k».proof.Proof.Spec
public import proofs.«01_k».proof.Proof.Gen.ReferenceIdeal.Step

@[expose] public section

set_option maxRecDepth 16384

noncomputable section

/-! One trip of the reference's loop, read at an index. -/

namespace Cert.Own.Ref

open Idealize.ShloMosaic Cert.ReferenceIdeal Cert.ReferenceIdeal.Gen Cert.ReferenceIdeal.Step

/-- A trip number below 200 as a word is itself. -/
theorem toInt_ofNat {j : ℕ} (hj : j < 200) : (BitVec.ofNat 32 j).toInt = j := by
  rw [BitVec.toInt_eq_toNat_of_lt (by rw [BitVec.toNat_ofNat]; omega), BitVec.toNat_ofNat, Nat.mod_eq_of_lt (by omega)]

/-- Two reads of an array at indices with equal coordinates agree. -/
theorem read3 {α : Type} {n0 n1 n2 : ℕ} (f : (⟨3, ![n0, n1, n2]⟩ : Shape).Idx → α) {a a' : Fin n0} {b b' : Fin n1}
    {c c' : Fin n2} (ha : a.val = a'.val) (hb : b.val = b'.val) (hc : c.val = c'.val) :
    f (ix3 a b c) = f (ix3 a' b' c') := by
  rw [Fin.ext ha, Fin.ext hb, Fin.ext hc]

/-- The start indices of the slice that trip `j` takes, as the loop's body spells them. -/
abbrev start (j : ℕ) : Fin 3 → ℤ := fun k =>
  ((![constantI S_ 32 (BitVec.ofNat 32 j), constantI S_ 32 0#32, constantI S_ 32 0#32] : Fin 3 → IVec S_ 32) k
    (Shape.Idx.first h_S_)).toInt

/-- The start of the slice that trip `j` takes is `j` on the first axis. -/
theorem start_first {n : ℕ} (hs : (⟨3, ![200, 1024, n]⟩ : Shape).Slices (fun _ => 0) ⟨3, ![1, 1024, n]⟩)
    {j : ℕ} (hj : j < 200) (start : Fin 3 → ℤ) (h0 : start 0 = (BitVec.ofNat 32 j).toInt) :
    Host.clampedStart ⟨3, ![200, 1024, n]⟩ ⟨3, ![1, 1024, n]⟩ hs.1 start 0 = j :=
  Host.clampedStart_of_le _ _ _ j (h0.trans (toInt_ofNat hj)) (by show j + 1 ≤ 200; omega)

/-- The start is zero on the other two axes. -/
theorem start_rest {n : ℕ} (hs : (⟨3, ![200, 1024, n]⟩ : Shape).Slices (fun _ => 0) ⟨3, ![1, 1024, n]⟩)
    (start : Fin 3 → ℤ) (a : Fin 3) (ha : a ≠ 0) (h0 : start a = 0) :
    Host.clampedStart ⟨3, ![200, 1024, n]⟩ ⟨3, ![1, 1024, n]⟩ hs.1 start a = 0 := by
  refine Host.clampedStart_of_le _ _ _ 0 h0 ?_
  fin_cases a
  · exact absurd rfl ha
  · exact Nat.le_of_eq (by simp)
  · exact Nat.le_of_eq (by simp)

/-- The time step's input row. -/
theorem b3_at (j : ℕ) (hj : j < 200) (s : State Ideal) (b : Fin 1024) (d : Fin 30) :
    b3 j s (ix2 b d) = s.main_v10_0 (ix3 ⟨j, hj⟩ b d) := by
  pointwise [b3, b2, b0, b1]
  refine read3 _ ?_ ?_ ?_
  · exact start_first sliceFits_S200x1024x30_S1x1024x30 hj (start j) rfl
  · exact (congrArg (· + b.val) (start_rest sliceFits_S200x1024x30_S1x1024x30 (start j) 1 (by decide) rfl)).trans (Nat.zero_add _)
  · exact (congrArg (· + d.val) (start_rest sliceFits_S200x1024x30_S1x1024x30 (start j) 2 (by decide) rfl)).trans (Nat.zero_add _)

/-- The time step's mask bit. -/
theorem b7_at (j : ℕ) (hj : j < 200) (s : State Ideal) (b : Fin 1024) :
    b7 j s (ix2 b 0) = s.main_v10_1 (ix3 ⟨j, hj⟩ b 0) := by
  pointwise [b7, b6, b4, b5]
  refine read3 _ ?_ ?_ ?_
  · exact start_first sliceFits_S200x1024x1_S1x1024x1 hj (start j) rfl
  · exact (congrArg (· + b.val) (start_rest sliceFits_S200x1024x1_S1x1024x1 (start j) 1 (by decide) rfl)).trans (Nat.zero_add _)
  · exact start_rest sliceFits_S200x1024x1_S1x1024x1 (start j) 2 (by decide) rfl

/-- A trip's new hidden state is the recurrence's cell under the step's mask. -/
theorem b44_at (j : ℕ) (hj : j < 200) (s : State Ideal) (b : Fin 1024) (d : Fin 30) :
    b44 j s (ix2 b d) = Scalar.select (s.main_v10_1 (ix3 ⟨j, hj⟩ b 0))
      (cell (fun k g => s.main_v10_2 (ix2 k g)) (fun k g => s.main_v10_3 (ix2 k g))
        (fun k => s.main_v10_0 (ix3 ⟨j, hj⟩ b k)) (fun k => s.main_v10_5 (ix2 b k)) d) (s.main_v10_5 (ix2 b d)) := by
  pointwise [b44, b43, b42, b41, b40, b39, b38, b37, b36, b35, b34, b33, b32, b31, b30, b29, b28, b27, b26, b25, b24, b23, b22, b21, b20, b19, b18, b17, b16, b15, b14, b13, b12, b11, b10, b9, b8]
  simp only [b7_at j hj, b3_at j hj]
  simp only [cell, gate, Ideal.logistic]
  simp only [Fin.val_zero, Fin.val_one, Fin.val_two, Nat.mul_zero, Nat.zero_add, Nat.mul_one, Nat.reduceMul]

/-- A trip writes its new hidden state into row `j` of the stack of hidden states and leaves the other rows. -/
theorem b48_at (j : ℕ) (hj : j < 200) (s : State Ideal) (t : Fin 200) (b : Fin 1024) (d : Fin 30) :
    b48 j s (ix3 t b d) = if t.val = j then b44 j s (ix2 b d) else s.main_v10_6 (ix3 t b d) := by
  have e0 := start_first sliceFits_S200x1024x30_S1x1024x30 hj (start j) rfl
  have e1 := start_rest sliceFits_S200x1024x30_S1x1024x30 (start j) 1 (by decide) rfl
  have e2 := start_rest sliceFits_S200x1024x30_S1x1024x30 (start j) 2 (by decide) rfl
  pointwise [b48, b47, b46, b45]
  by_cases h : t.val = j
  · rw [if_pos h, dif_pos (by rw [e0, e1, e2]; omega)]
    refine congrArg _ ?_
    congr 1 <;> apply Fin.ext
  · rw [if_neg h, dif_neg (by rw [e0, e1, e2]; omega)]

end Cert.Own.Ref

end
-- ==== Proof.RefLoop.lean ====
module

public import proofs.«01_k».proof.Proof.RefStep

@[expose] public section

set_option maxRecDepth 16384

noncomputable section

/-! The reference's loop: after `n` trips its state holds the recurrence's first `n` hidden states. -/

namespace Cert.Own.Ref

open Idealize.ShloMosaic Cert.ReferenceIdeal Cert.ReferenceIdeal.Gen Cert.ReferenceIdeal.Step

/-- A weight matrix as a function of row and column. -/
abbrev mat {m n : ℕ} (W : FVec Ideal ⟨2, ![m, n]⟩ .f32) : Fin m → Fin n → EReal := fun k g => W (ix2 k g)

/-- A row's items as a function of the time step, constant from step 200 on. -/
abbrev items (x : FVec Ideal ⟨3, ![1024, 200, 30]⟩ .f32) (b : Fin 1024) (t : ℕ) (k : Fin 30) : EReal :=
  x (ix3 b ⟨min t 199, by omega⟩ k)

/-- The hidden state of batch row `b` after `t` steps, of the arguments. -/
abbrev hidA (x : FVec Ideal ⟨3, ![1024, 200, 30]⟩ .f32) (len : IVec ⟨1, ![1024]⟩ 32)
    (Wi Wh : FVec Ideal ⟨2, ![30, 90]⟩ .f32) (b : Fin 1024) (t : ℕ) : Fin 30 → EReal :=
  hid (mat Wi) (mat Wh) (items x b) (len (ix1 b)) t

variable (a0 : FVec Ideal S1024x200x30 .f32) (a3 : IVec S1024 32) (a4 a5 : FVec Ideal S30x90 .f32)

/-- The loop's inputs are the items, time step first. -/
theorem xs_at (t : Fin 200) (b : Fin 1024) (d : Fin 30) : A_main_v7 (F := Ideal) a0 a3 (ix3 t b d) = a0 (ix3 b t d) := by
  pointwise [A_main_v7]

/-- The loop's masks compare the time step with the row's length. -/
theorem ms_at (t : Fin 200) (b : Fin 1024) :
    A_main_v6 (F := Ideal) a0 a3 (ix3 t b 0) = IntOp.cmpi .slt (BitVec.ofNat 32 t.val) (a3 (ix1 b)) := by
  pointwise [A_main_v6, A_main_v5, A_main_v4, A_main_v2, K_main_v3, K_main_v1, K_main_v0]

variable {it : ℕ → State Ideal} (h0 : it 0 = init a4 a5 a0 a3) (hs : ∀ n, it (n + 1) = step n (it n))

include h0 hs

/-- No trip changes what the loop only reads. -/
theorem it_const (n : ℕ) : (it n).main_v10_0 = A_main_v7 a0 a3 ∧ (it n).main_v10_1 = A_main_v6 a0 a3
    ∧ (it n).main_v10_2 = a4 ∧ (it n).main_v10_3 = a5 := by
  induction n with
  | zero => rw [h0]; exact ⟨rfl, rfl, rfl, rfl⟩
  | succ n ih => rw [hs]; exact ih

/-- After `n` trips the carried state is the recurrence's. -/
theorem it_h (n : ℕ) (hn : n ≤ 200) (b : Fin 1024) (d : Fin 30) :
    (it n).main_v10_5 (ix2 b d) = hidA a0 a3 a4 a5 b n d := by
  induction n generalizing d with
  | zero =>
    rw [h0]
    show K_main_v8 (F := Ideal) (ix2 b d) = 0
    pointwise [K_main_v8, K_main_cst]
  | succ n ih =>
    have hc := it_const a0 a3 a4 a5 h0 hs n
    rw [hs, step_main_v10_5, b44_at n (by omega), hc.1, hc.2.1, hc.2.2.1, hc.2.2.2]
    have ex : items a0 b n = fun k => a0 (ix3 b ⟨n, by omega⟩ k) :=
      funext fun k => read3 a0 rfl (show min n 199 = n by omega) rfl
    simp only [ih (by omega), xs_at, ms_at, hid, hidA, ex]

/-- After `n` trips the first `n` rows of the stack hold the hidden states. -/
theorem it_stack (n : ℕ) (hn : n ≤ 200) (t : Fin 200) (ht : t.val < n) (b : Fin 1024) (d : Fin 30) :
    (it n).main_v10_6 (ix3 t b d) = hidA a0 a3 a4 a5 b (t.val + 1) d := by
  induction n with
  | zero => omega
  | succ n ih =>
    rw [hs, step_main_v10_6, b48_at n (by omega)]
    by_cases h : t.val = n
    · rw [if_pos h, h, ← it_h a0 a3 a4 a5 h0 hs (n + 1) hn, hs, step_main_v10_5]
    · rw [if_neg h, ih (by omega) (by omega)]

end Cert.Own.Ref

end
-- ==== Proof.RefOut.lean ====
module

public import proofs.«01_k».proof.Proof.RefLoop
public import proofs.«01_k».proof.Proof.Nls

@[expose] public section

set_option maxRecDepth 16384

noncomputable section

/-! The reference's three results, read at an index. -/

namespace Cert.Own.Ref

open Idealize.ShloMosaic Cert.ReferenceIdeal Cert.ReferenceIdeal.Gen Cert.ReferenceIdeal.Step

/-- The first result holds the stack of hidden states, eight time steps a block and the batch along the lanes. -/
theorem v137_at (s : State Ideal) (i : Fin 25) (d : Fin 30) (l : Fin 8192) :
    R_main_v137 s (ix3 i d l) = s.main_v10_6 (ix3 ⟨i.val * 8 + l.val / 1024, by omega⟩ ⟨l.val % 1024, by omega⟩ d) := by
  pointwise [R_main_v137]

/-- The second result is the score of each hidden state. -/
theorem v138_at (s : State Ideal) (a2 : FVec Ideal S1024x30 .f32) (a12 : FVec Ideal S30x40 .f32) (a13 : FVec Ideal S40 .f32) (a14 : FVec Ideal S40x1 .f32) (a15 : FVec Ideal S1 .f32) (t : Fin 200) (b : Fin 1024) :
    R_main_v138 s a2 a12 a13 a14 a15 (ix2 t b) = score (mat a12) (fun a => a13 (ix1 a)) (fun a => a14 (ix2 a 0)) (a15 (ix1 0)) (fun k => a2 (ix2 b k)) (fun k => s.main_v10_6 (ix3 t b k)) := by
  pointwise [R_main_v138]
  rfl

/-- The reference's spelling of a negated logarithm of the logistic function. -/
theorem lse_at (x : EReal) : - -(if -x ≠ -x then -x else max (-x) 0 + Ideal.log1p (Ideal.exp (-FloatOps.absf (F := Ideal) (φ := .f32) (-x)))) = nls x := by
  rw [if_neg (by simp), neg_neg]
  exact nls_eq x

/-- The auxiliary network on a hidden state and an item, of the weights as the programs hold them. -/
abbrev auxA (a6 : FVec Ideal ⟨2, ![60, 32]⟩ .f32) (a7 : FVec Ideal ⟨1, ![32]⟩ .f32) (a8 : FVec Ideal ⟨2, ![32, 16]⟩ .f32)
    (a9 : FVec Ideal ⟨1, ![16]⟩ .f32) (a10 : FVec Ideal ⟨2, ![16, 1]⟩ .f32) (a11 : FVec Ideal ⟨1, ![1]⟩ .f32)
    (h e : Fin 30 → EReal) : EReal :=
  aux (mat a6) (fun a => a7 (ix1 a)) (mat a8) (fun a => a9 (ix1 a)) (fun a => a10 (ix2 a 0)) (a11 (ix1 0)) h e

/-- Its third result at lane `l` is the sum of lane `l`'s loss terms over the chunks of eight time steps. -/
theorem v136_at (s : State Ideal) (a0 a1 : FVec Ideal S1024x200x30 .f32) (a3 : IVec S1024 32) (a6 : FVec Ideal S60x32 .f32) (a7 : FVec Ideal S32 .f32) (a8 : FVec Ideal S32x16 .f32) (a9 : FVec Ideal S16 .f32) (a10 : FVec Ideal S16x1 .f32) (a11 : FVec Ideal S1 .f32) (l : Fin 8192) :
    R_main_v136 s a0 a1 a3 a6 a7 a8 a9 a10 a11 (ix2 0 l) = ∑ x : Fin 25, term (x.val * 8 + l.val / 1024) (a3 (ix1 ⟨l.val % 1024, by omega⟩))
        (auxA a6 a7 a8 a9 a10 a11 (fun k => s.main_v10_6 (ix3 ⟨x.val * 8 + l.val / 1024 - 1, by omega⟩ ⟨l.val % 1024, by omega⟩ k))
          (fun k => a0 (ix3 ⟨l.val % 1024, by omega⟩ ⟨1 + (x.val * 8 + l.val / 1024 - 1), by omega⟩ k)))
        (auxA a6 a7 a8 a9 a10 a11 (fun k => s.main_v10_6 (ix3 ⟨x.val * 8 + l.val / 1024 - 1, by omega⟩ ⟨l.val % 1024, by omega⟩ k))
          (fun k => a1 (ix3 ⟨l.val % 1024, by omega⟩ ⟨1 + (x.val * 8 + l.val / 1024 - 1), by omega⟩ k))) := by
  refine (fun (h : ∀ z, _ = z → R_main_v136 s a0 a1 a3 a6 a7 a8 a9 a10 a11 (ix2 0 l) = z) => h _ rfl) fun z hz => ?_
  pointwise [R_main_v136]
  rw [← hz]
  refine Finset.sum_congr rfl fun x _ => ?_
  by_cases h : x.val * 8 + l.val / 1024 < 1
  · rw [dif_pos h]
    have hT : x.val * 8 + l.val / 1024 = 0 := by omega
    exact (term_first _ hT _ _ _).symm
  · rw [dif_neg h]
    have hT : 1 + (x.val * 8 + l.val / 1024 - 1) = x.val * 8 + l.val / 1024 := by omega
    refine (mul_bit _ _).trans ?_
    refine Eq.trans ?_ (term_pos (x.val * 8 + l.val / 1024) (by omega) (by omega) _ _ _).symm
    refine congrArg₂ (fun c z => Scalar.select c z (0 : EReal)) (congrArg (fun T => IntOp.cmpi .slt (BitVec.ofNat 32 T) _) hT) ?_
    refine congrArg₂ (fun y z : EReal => y + z) ?_ ?_
    · exact lse_at _
    · exact lse_at _

end Cert.Own.Ref

end
-- ==== Proof.KV.Vals.lean ====
module

public import proofs.«01_k».proof.Proof.KI.Value
public import proofs.«01_k».proof.Proof.KV.Opd
public import proofs.«01_k».proof.Proof.RefOut
public import proofs.«01_k».proof.Proof.KV.Net2
public import Idealize.ShloMosaic.Lib.Pipeline.ValueKit
public import Idealize.ShloMosaic.Lib.Pipeline.ReadBack

@[expose] public section

set_option maxRecDepth 16384

noncomputable section

namespace Cert.Own.Ker

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

open Cert.Own.Ref

/-- The hidden state of batch row `b` after `n` time steps, of the kernel's arguments. -/
abbrev H (b : Fin 1024) (n : ℕ) : Fin 30 → EReal :=
  hidA (m ((c : Thread nD τ).loc main_arg0)) (m ((c : Thread nD τ).loc main_arg3)) (m ((c : Thread nD τ).loc main_arg4)) (m ((c : Thread nD τ).loc main_arg5)) b n

/-- The auxiliary network of the kernel's arguments. -/
abbrev AX (h e : Fin 30 → EReal) : EReal :=
  auxA (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) h e

/-- The loss term of lane `l` in chunk `x`. -/
def T (x : ℕ) (l : Fin 8192) : EReal :=
  term (8 * x + l.val / 1024) (m ((c : Thread nD τ).loc main_arg3) (ix1 ⟨l.val % 1024, by omega⟩))
    (AX m c (H m c ⟨l.val % 1024, by omega⟩ (8 * x + l.val / 1024)) (items (m ((c : Thread nD τ).loc main_arg0)) ⟨l.val % 1024, by omega⟩ (8 * x + l.val / 1024)))
    (AX m c (H m c ⟨l.val % 1024, by omega⟩ (8 * x + l.val / 1024)) (items (m ((c : Thread nD τ).loc main_arg1)) ⟨l.val % 1024, by omega⟩ (8 * x + l.val / 1024)))

/-- The score of batch row `b` at time step `n`. -/
def SC (n : ℕ) (b : Fin 1024) : EReal :=
  score (mat (m ((c : Thread nD τ).loc main_arg12))) (fun a => m ((c : Thread nD τ).loc main_arg13) (ix1 a)) (fun a => m ((c : Thread nD τ).loc main_arg14) (ix2 a 0)) (m ((c : Thread nD τ).loc main_arg15) (ix1 0))
    (fun k => m ((c : Thread nD τ).loc main_arg2) (ix2 b k)) (H m c b (n + 1))

/-- The casts at the head of the body keep every entry. -/
theorem pay4_at (x : Vec Ideal S1x1024 .i32) (b : Fin 1024) : k0_pay4 (F := Ideal) x (ix2 0 b) = x (ix2 0 b) := by
  pointwise [k0_pay4]
/-- The cast number 5 of the body keeps every entry. -/
theorem pay5_at (x : Vec Ideal S96x30 .bf16) (a : Fin 96) (k : Fin 30) : k0_pay5 (F := Ideal) x (ix2 a k) = x (ix2 a k) := by
  pointwise [k0_pay5]
/-- The cast number 6 of the body keeps every entry. -/
theorem pay6_at (x : Vec Ideal S96x30 .f32) (a : Fin 96) (k : Fin 30) : k0_pay6 (F := Ideal) x (ix2 a k) = x (ix2 a k) := by
  pointwise [k0_pay6]
/-- The cast number 7 of the body keeps every entry. -/
theorem pay7_at (x : Vec Ideal S1x30x8192 .bf16) (k : Fin 30) (l : Fin 8192) : k0_pay7 (F := Ideal) x (ix2 k l) = x (ix3 0 k l) := by
  pointwise [k0_pay7]
/-- The cast number 38 of the body keeps every entry. -/
theorem pay38_at (x : Vec Ideal S1x30x8192 .bf16) (k : Fin 30) (l : Fin 8192) : k0_pay38 (F := Ideal) x (ix2 k l) = x (ix3 0 k l) := by
  pointwise [k0_pay38]

/-- An item of a grid point is the row's item at the time step. -/
theorem items_eq (x : FVec Ideal ⟨3, ![1024, 200, 30]⟩ .f32) (b : Fin 1024) (n : ℕ) (hn : n < 200) (k : Fin 30) : x (ix3 b ⟨n, hn⟩ k) = items x b n k :=
  read3 x rfl (by show n = min n 199; omega) rfl

section
variable (t : Fin cfg0.N) (h : FVec Ideal S30x1024 .f32) (hh : ∀ d b, h (ix2 d b) = H m c b (8 * t.val) d)
include hh

/-- The hidden states of a grid point. -/
theorem St_at : ∀ j ≤ 8, ∀ d b, St m c t h j (ix2 d b) = H m c b (8 * t.val + j) d := by
  have ht : t.val < 25 := t.isLt
  have hi := (seqs m c t).1
  refine sts_at (mat (m ((c : Thread nD τ).loc main_arg4))) (mat (m ((c : Thread nD τ).loc main_arg5))) (fun b => items (m ((c : Thread nD τ).loc main_arg0)) b)
    (fun b => m ((c : Thread nD τ).loc main_arg3) (ix1 b)) (8 * t.val) _ _ _ _ _ h ?_ ?_ ?_ ?_ ?_ hh
  · exact fun s d k => (pay5_at _ _ _).trans (r5 m c t s d k)
  · exact fun s d k => (pay6_at _ _ _).trans (r6 m c t s d k)
  · exact fun b => (pay4_at _ _).trans ((seqs m c t).2.2.2.1 b)
  · intro j hj
    have hc : (grid0.coords t 0).val = t.val := by
      obtain ⟨-, -, -, -, -, -, -, -, -, -, -, -, -, -, -, -, -, -, e⟩ := idx t
      exact e
    rw [hc, word, ← word_eq ⟨t.val, ht⟩ ⟨j, hj⟩]
    exact BitVec.add_comm _ _
  · intro k l
    refine (pay7_at _ _ _).trans ((hi k l).trans ?_)
    exact items_eq _ _ _ _ _

/-- The block of hidden states a grid point stores. -/
theorem block_at (k : Fin 30) (l : Fin 8192) : block (St m c t h) (ix3 0 k l) = H m c ⟨l.val % 1024, by omega⟩ (8 * t.val + l.val / 1024 + 1) k :=
  St_at m c t h hh (l.val / 1024 + 1) (by omega) k ⟨l.val % 1024, by omega⟩

/-- The scores a grid point stores. -/
theorem Sc_at (j : Fin 8) (b : Fin 1024) : Sc m c t h (ix2 j b) = SC m c (8 * t.val + j.val) b := by
  obtain ⟨q1, q2, q3, q4⟩ := scs m c t
  refine (score_at (mat (m ((c : Thread nD τ).loc main_arg12))) (fun a => m ((c : Thread nD τ).loc main_arg13) (ix1 a)) (fun a => m ((c : Thread nD τ).loc main_arg14) (ix2 a 0))
    (m ((c : Thread nD τ).loc main_arg15) (ix1 0)) (block (St m c t h)) (iblk m c 2 t) (iblk m c 14 t) (iblk m c 15 t) (iblk m c 16 t) (iblk m c 17 t) q1 q2 q3 q4 j b).trans ?_
  have hm : (j.val * 1024 + b.val) % 1024 = b.val := by omega
  have hd : (j.val * 1024 + b.val) / 1024 = j.val := by omega
  refine congrArg₂ (score _ _ _ _) (funext fun k => ?_) (funext fun k => ?_)
  · refine ((seqs m c t).2.2.1 k ⟨j.val * 1024 + b.val, by omega⟩).trans ?_
    exact congrArg (fun z => m ((c : Thread nD τ).loc main_arg2) (ix2 z k)) (Fin.ext hm)
  · refine (block_at m c t h hh k ⟨j.val * 1024 + b.val, by omega⟩).trans ?_
    have e1 : (⟨(j.val * 1024 + b.val) % 1024, by omega⟩ : Fin 1024) = b := Fin.ext hm
    show H m c ⟨(j.val * 1024 + b.val) % 1024, _⟩ (8 * t.val + (j.val * 1024 + b.val) / 1024 + 1) k = _
    rw [e1, hd]

/-- The loss vector a grid point stores. -/
theorem Ls_at (s : FVec Ideal S1x8192 .f32) (l : Fin 8192) : Ls m c t h s (ix2 0 l) = s (ix2 0 l) + T m c t.val l := by
  have ht : t.val < 25 := t.isLt
  obtain ⟨q7, q8, q9, q10, q11, q12, q13⟩ := auxs m c t
  obtain ⟨i0, i1, -, -, i4⟩ := seqs m c t
  have hc : (grid0.coords t 0).val = t.val := by
    obtain ⟨-, -, -, -, -, -, -, -, -, -, -, -, -, -, -, -, -, -, e⟩ := idx t
    exact e
  refine (loss_at (mat (m ((c : Thread nD τ).loc main_arg8))) (fun a => m ((c : Thread nD τ).loc main_arg9) (ix1 a)) (fun a => m ((c : Thread nD τ).loc main_arg10) (ix2 a 0)) (m ((c : Thread nD τ).loc main_arg11) (ix1 0))
    (iblk m c 10 t) (iblk m c 11 t) (iblk m c 12 t) (iblk m c 13 t) q10 q11 q12 q13 (mat (m ((c : Thread nD τ).loc main_arg6))) (fun a => m ((c : Thread nD τ).loc main_arg7) (ix1 a))
    ⟨t.val, ht⟩ _ (congrArg (BitVec.ofNat 32) hc) (k0_pay7 (F := Ideal) (iblk m c 0 t)) (iblk m c 1 t) h (k0_pay38 (block (St m c t h))) (iblk m c 7 t) (iblk m c 8 t) (iblk m c 9 t) (iblk m c 4 t) s
    q7 q8 q9 l (H m c ⟨l.val % 1024, by omega⟩ (8 * t.val + l.val / 1024)) ?_).trans ?_
  · intro k
    by_cases hl : l.val < 1024
    · rw [dif_pos hl]
      have e1 : l.val % 1024 = l.val := by omega
      have e2 : 8 * t.val + l.val / 1024 = 8 * t.val := by omega
      refine (hh k ⟨l.val, hl⟩).trans ?_
      simp only [e1, e2]
    · rw [dif_neg hl]
      refine (pay38_at _ _ _).trans ((block_at m c t h hh k ⟨l.val - 1024, by omega⟩).trans ?_)
      have e1 : (l.val - 1024) % 1024 = l.val % 1024 := by omega
      have e2 : 8 * t.val + (l.val - 1024) / 1024 + 1 = 8 * t.val + l.val / 1024 := by omega
      show H m c ⟨(l.val - 1024) % 1024, _⟩ (8 * t.val + (l.val - 1024) / 1024 + 1) k = _
      simp only [e1, e2]
  · refine congrArg (s (ix2 0 l) + ·) ?_
    have p0 : (fun k => k0_pay7 (F := Ideal) (iblk m c 0 t) (ix2 k l)) = items (m ((c : Thread nD τ).loc main_arg0)) ⟨l.val % 1024, by omega⟩ (8 * t.val + l.val / 1024) :=
      funext fun k => (pay7_at _ _ _).trans ((i0 k l).trans (items_eq _ _ _ _ _))
    have p1 : (fun k => (show Vec Ideal S1x30x8192 .bf16 from iblk m c 1 t) (ix3 0 k l)) = items (m ((c : Thread nD τ).loc main_arg1)) ⟨l.val % 1024, by omega⟩ (8 * t.val + l.val / 1024) :=
      funext fun k => (i1 k l).trans (items_eq _ _ _ _ _)
    have p4 := i4 l
    unfold T
    refine (congrArg (fun z => term _ z _ _) p4).trans ?_
    exact congrArg₂ (fun x y => term _ _ (AX m c _ x) (AX m c _ y)) p0 p1
end

end Cert.Own.Ker

end
-- ==== Proof.KV.Out.lean ====
module

public import proofs.«01_k».proof.Proof.KI.Value
public import proofs.«01_k».proof.Proof.KV.Vals
public import proofs.«01_k».proof.Proof.KV.Net2
public import Idealize.ShloMosaic.Lib.Pipeline.ValueKit
public import Idealize.ShloMosaic.Lib.Pipeline.ReadBack

@[expose] public section

set_option maxRecDepth 16384

noncomputable section

namespace Cert.Own.Ker

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

open Cert.Own.Ref

/-- What the arrays and the carried state hold after grid point `n`, as arrays. -/
structure Inv (n : ℕ) (a1 : Vec Ideal S1x30x8192 .bf16) (a2 : Vec Ideal S8x1024 .f32) (a3 : Vec Ideal S1x8192 .f32) (a4 : Vec Ideal S30x1024 .f32) : Prop where
  hs : ∀ (k : Fin 30) (l : Fin 8192), a1 (ix3 0 k l) = H m c ⟨l.val % 1024, by omega⟩ (8 * n + l.val / 1024 + 1) k
  sc : ∀ (j : Fin 8) (b : Fin 1024), a2 (ix2 j b) = SC m c (8 * n + j.val) b
  ls : ∀ l : Fin 8192, a3 (ix2 0 l) = ∑ x ∈ Finset.range (n + 1), T m c x l
  st : ∀ (d : Fin 30) (b : Fin 1024), a4 (ix2 d b) = H m c b (8 * n + 8) d

/-- The same of the tuple of them. -/
def InvT (n : ℕ) (a : Vec Ideal S1x30x8192 .bf16 × Vec Ideal S8x1024 .f32 × Vec Ideal S1x8192 .f32 × Vec Ideal S30x1024 .f32) : Prop := Inv m c n a.1 a.2.1 a.2.2.1 a.2.2.2

/-- The zeros a row starts from. -/
theorem Z_at (d : Fin 30) (b : Fin 1024) : Z (ix2 d b) = 0 := by
  pointwise [Z, k0_pay2]
/-- The first store of the scratch holds zero at every entry. -/
theorem pay3_at (l : Fin 8192) : k0_pay3 (F := Ideal) (ix2 0 l) = 0 := by
  pointwise [k0_pay3]

/-- A grid point carries the invariant, from the state and the loss vector before it. -/
theorem inv_point (t : Fin cfg0.N) (h : FVec Ideal S30x1024 .f32) (s : FVec Ideal S1x8192 .f32) (hh : ∀ d b, h (ix2 d b) = H m c b (8 * t.val) d)
    (hs : ∀ l, s (ix2 0 l) = ∑ x ∈ Finset.range t.val, T m c x l) :
    Inv m c t.val (block (St m c t h)) (Sc m c t h) (Ls m c t h s) (St m c t h 8) := by
  refine ⟨?_, ?_, ?_, ?_⟩
  · intro k l
    exact block_at m c t h hh k l
  · intro j b
    exact Sc_at m c t h hh j b
  · intro l
    rw [Finset.sum_range_succ, ← hs]
    exact Ls_at m c t h hh s l
  · intro d b
    exact St_at m c t h hh 8 le_rfl d b

/-- The tuple's invariant from its components'. -/
theorem InvT.mk {n : ℕ} {a1 : Vec Ideal S1x30x8192 .bf16} {a2 : Vec Ideal S8x1024 .f32} {a3 : Vec Ideal S1x8192 .f32} {a4 : Vec Ideal S30x1024 .f32}
    (h : Inv m c n a1 a2 a3 a4) : InvT m c n (a1, a2, a3, a4) := h

/-- The first grid point starts it. -/
theorem inv_start (t : Fin cfg0.N) (h : t.val = 0) (a) : InvT m c t.val (stAt0 m c t.val t.isLt a) := by
  have e : InvT m c t.val (block (St m c t Z), Sc m c t Z, Ls m c t Z (k0_pay3 (F := Ideal)), St m c t Z 8) := by
    apply InvT.mk
    apply inv_point
    · intro d b
      rw [h]
      exact Z_at d b
    · intro l
      rw [h, Finset.sum_range_zero]
      exact pay3_at l
  rw [point_A m c t a (by omega)]
  exact e

/-- A later grid point continues it. -/
theorem inv_step (t : Fin cfg0.N) (n : ℕ) (h : t.val = n + 1) (a) (ha : InvT m c n a) : InvT m c t.val (stAt0 m c t.val t.isLt a) := by
  have ht : t.val < 25 := t.isLt
  obtain ⟨a1, a2, a3, a4⟩ := a
  have hi : Inv m c n a1 a2 a3 a4 := ha
  have e : InvT m c t.val (block (St m c t a4), Sc m c t a4, Ls m c t a4 a3, St m c t a4 8) := by
    apply InvT.mk
    apply inv_point
    · intro d b
      rw [hi.st, h, Nat.mul_add]
    · intro l
      rw [hi.ls, h]
  rw [point_B m c t _ (by omega)]
  exact e

/-- The first grid point, by its number. -/
theorem inv_first (h : 0 < cfg0.N) (a) : InvT m c 0 (stAt0 m c 0 h a) := inv_start m c ⟨0, h⟩ rfl a

/-- A later one. -/
theorem inv_next (n q : ℕ) (hq : q < cfg0.N) (e : q = n + 1) (a) (ha : InvT m c n a) : InvT m c (n + 1) (stAt0 m c q hq a) := by
  subst e
  exact inv_step m c ⟨n + 1, hq⟩ n rfl a ha

/-- It holds after every grid point. -/
theorem inv (n : ℕ) (h : 0 + n < cfg0.N) : InvT m c n (Pipeline.accAt (fun n h => stAt0 m c n h junk0) (stAt0 m c) 0 n h) := by
  induction n with
  | zero => exact inv_first m c h _
  | succ n ih =>
    exact inv_next m c n _ h (Nat.zero_add _) _ (ih (Nat.lt_of_succ_lt h))

/-- The first array at an index. -/
theorem G18_at (i : Fin 25) (k : Fin 30) (l : Fin 8192) : G18 m c (ix3 i k l) = H m c ⟨l.val % 1024, by omega⟩ (8 * i.val + l.val / 1024 + 1) k := by
  have hp : pt18Of (ix3 i k l) = i.val := by
    show 1 * (i.val / 1 - 0) + 1 * (k.val / 30 - 0) + 1 * (l.val / 8192 - 0) = i.val
    omega
  have hl : loc18Of (ix3 i k l) = ix3 0 k l := by
    funext a
    match a with
    | ⟨0, _⟩ => exact Fin.ext (by show i.val % 1 = 0; omega)
    | ⟨1, _⟩ => exact Fin.ext (by show k.val % 30 = k.val; omega)
    | ⟨2, _⟩ => exact Fin.ext (by show l.val % 8192 = l.val; omega)
  unfold G18
  rw [dif_pos (by rw [hp]; exact i.isLt), hl]
  refine ((inv m c _ _).hs k l).trans ?_
  rw [hp]

/-- The second array at an index. -/
theorem G19_at (t : Fin 200) (b : Fin 1024) : G19 m c (ix2 t b) = SC m c t.val b := by
  have hp : pt19Of (ix2 t b) = t.val / 8 := by
    show 1 * (t.val / 8 - 0) + 1 * (b.val / 1024 - 0) = t.val / 8
    omega
  have hl : loc19Of (ix2 t b) = ix2 (⟨t.val % 8, by omega⟩ : Fin 8) b := by
    funext a
    match a with
    | ⟨0, _⟩ => rfl
    | ⟨1, _⟩ => exact Fin.ext (by show b.val % 1024 = b.val; omega)
  unfold G19
  rw [dif_pos (by rw [hp]; show t.val / 8 < 25; omega), hl]
  refine ((inv m c _ _).sc _ b).trans ?_
  rw [hp]
  exact congrArg (fun z => SC m c z b) (by show 8 * (t.val / 8) + t.val % 8 = t.val; omega)

/-- The third array at an index. -/
theorem G20_at (l : Fin 8192) : G20 m c (ix2 0 l) = ∑ x : Fin 25, T m c x.val l := by
  have hp : pt20Of (ix2 0 l) = 24 := by
    show 25 * (1 * (0 / 1 - 0) + 1 * (l.val / 8192 - 0)) + 24 = 24
    omega
  have hl : loc20Of (ix2 0 l) = ix2 (0 : Fin 1) l := by
    funext a
    match a with
    | ⟨0, _⟩ => rfl
    | ⟨1, _⟩ => exact Fin.ext (by show l.val % 8192 = l.val; omega)
  unfold G20
  rw [dif_pos (by rw [hp]; show 24 < 25; omega), hl]
  refine ((inv m c _ _).ls l).trans ?_
  rw [hp, Finset.sum_range]

end Cert.Own.Ker

end
-- ==== Proof.Final.lean ====
module

public import proofs.«01_k».proof.Proof.KV.Out
public import proofs.«01_k».proof.Proof.RI.StepRun

@[expose] public section

set_option maxRecDepth 16384

noncomputable section

/-! The call's three arrays are the reference's three results. -/

namespace Cert.Own.Fin

open Idealize.ShloMosaic Idealize.ShloMosaic.TcCoe Idealize.SL.Sem Cert.KernelIdeal Cert.KernelIdeal.Value Cert.Own.Ref Cert.Own.Ker
open Cert.ReferenceIdeal.Step (State init step R_main_v136 R_main_v137 R_main_v138)

variable (m : (ℓ : Loc nD τ sig) → Buf (Elt Ideal) ℓ) (c : Dev nD)

section
variable {it : ℕ → State Ideal}
  (h0 : it 0 = init (m ((c : Thread nD τ).loc main_arg4)) (m ((c : Thread nD τ).loc main_arg5)) (m ((c : Thread nD τ).loc main_arg0)) (m ((c : Thread nD τ).loc main_arg3)))
  (hs : ∀ n, it (n + 1) = step n (it n))
include h0 hs

/-- A row of the reference's stack after the last trip is the hidden state after that row's time step. -/
theorem stack_H (t : Fin 200) (b : Fin 1024) (d : Fin 30) : (it 200).main_v10_6 (ix3 t b d) = H m c b (t.val + 1) d :=
  it_stack _ _ _ _ h0 hs 200 le_rfl t t.isLt b d

/-- The first array. -/
theorem hs_eq : R_main_v137 (it 200) = G18 m c := by
  funext j
  obtain ⟨i, k, l, rfl⟩ : ∃ (i : Fin 25) (k : Fin 30) (l : Fin 8192), j = ix3 i k l := ⟨j 0, j 1, j 2, funext fun a => by
    match a with
    | ⟨0, _⟩ => rfl
    | ⟨1, _⟩ => rfl
    | ⟨2, _⟩ => rfl⟩
  refine (v137_at _ i k l).trans ((stack_H m c h0 hs _ _ _).trans ?_)
  refine Eq.trans ?_ (G18_at m c i k l).symm
  exact congrArg (fun z => H m c _ z k) (by show i.val * 8 + l.val / 1024 + 1 = _; omega)

/-- The second array. -/
theorem sc_eq : R_main_v138 (it 200) (m ((c : Thread nD τ).loc main_arg2)) (m ((c : Thread nD τ).loc main_arg12)) (m ((c : Thread nD τ).loc main_arg13)) (m ((c : Thread nD τ).loc main_arg14)) (m ((c : Thread nD τ).loc main_arg15)) = G19 m c := by
  funext j
  obtain ⟨t, b, rfl⟩ : ∃ (t : Fin 200) (b : Fin 1024), j = ix2 t b := ⟨j 0, j 1, funext fun a => by
    match a with
    | ⟨0, _⟩ => rfl
    | ⟨1, _⟩ => rfl⟩
  refine (v138_at _ _ _ _ _ _ t b).trans (Eq.trans ?_ (G19_at m c t b).symm)
  unfold Ker.SC
  exact congrArg (score _ _ _ _ _) (funext fun k => stack_H m c h0 hs t b k)

/-- The hidden state and the item that a loss term of a later time step reads. -/
theorem net_eq (x : FVec Ideal ⟨3, ![1024, 200, 30]⟩ .f32) (n : ℕ) (hn : n < 200) (h1 : n ≠ 0) (b : Fin 1024) :
    AX m c (fun k => (it 200).main_v10_6 (ix3 ⟨n - 1, by omega⟩ b k)) (fun k => x (ix3 b ⟨1 + (n - 1), by omega⟩ k)) = AX m c (H m c b n) (items x b n) := by
  refine congrArg₂ (AX m c) (funext fun k => (stack_H m c h0 hs _ _ _).trans ?_) (funext fun k => (items_eq x b _ _ k).trans ?_)
  · exact congrArg (fun z => H m c b z k) (by show n - 1 + 1 = n; omega)
  · exact congrArg (fun z => items x b z k) (by omega)

/-- The third array. -/
theorem ls_eq : R_main_v136 (it 200) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = G20 m c := by
  funext j
  obtain ⟨l, rfl⟩ : ∃ l : Fin 8192, j = ix2 0 l := ⟨j 1, funext fun a => by
    match a with
    | ⟨0, _⟩ => exact Subsingleton.elim (α := Fin 1) _ _
    | ⟨1, _⟩ => rfl⟩
  refine (v136_at _ _ _ _ _ _ _ _ _ _ l).trans (Eq.trans ?_ (G20_at m c l).symm)
  refine Finset.sum_congr rfl fun x _ => ?_
  unfold Ker.T
  rw [Nat.mul_comm 8 x.val]
  have hn : x.val * 8 + l.val / 1024 < 200 := by omega
  by_cases h1 : x.val * 8 + l.val / 1024 = 0
  · exact (term_first _ h1 _ _ _).trans (term_first _ h1 _ _ _).symm
  · exact congrArg₂ (term _ _) (net_eq m c h0 hs _ _ hn h1 _) (net_eq m c h0 hs _ _ hn h1 _)
end

end Cert.Own.Fin

end
-- ==== Proof.KJ.RunA.lean ====
module

public import proofs.«01_k».proof.Proof.Gen.Kernel2Ideal.Frame.Runs

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken, `scf.if` 1 not taken: points 0), WITH the
    proof that on whole staging memrefs — the inputs' at their contents, the outputs it leaves idle (19, 20: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) :
    Σ' (L19 : List (View.Piece (Elt F) S1x1024 .f32)), Σ' (L20 : List (View.Piece (Elt F) S1x1 .f32)), Σ' (LS0 : List (View.Piece (Elt F) S30x1024 .f32)), { LS1 : List (View.Piece (Elt F) S200x1024 .f32) //
      ∀ (xi19 : Vec F S1x1024 .f32) (xi20 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xi20 ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xi20 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1)) -∗ K ⟨⟩))
          ⊢ wp frame (wpE (defs₀ (F := F)) Variants.none c none) E (cc0__augru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, fun xi19 xi20 E K => ?run⟩
  case run =>
    simp only [cc0__augru_kernel_eq_skeleton]; unfold cc0__augru_kernel_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [HS0]; · iexists _; iexact HS0
    iexists _; iexact HS1

end Cert.Kernel2Ideal.Gen

end
-- ==== Proof.KJ.RunB.lean ====
module

public import proofs.«01_k».proof.Proof.KJ.RunA

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken, `scf.if` 1 not taken: points 1, 2, 3), WITH the
    proof that on whole staging memrefs — the inputs' at their contents, the outputs it leaves idle (19, 20: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) :
    Σ' (L19 : List (View.Piece (Elt F) S1x1024 .f32)), Σ' (L20 : List (View.Piece (Elt F) S1x1 .f32)), Σ' (LS0 : List (View.Piece (Elt F) S30x1024 .f32)), { LS1 : List (View.Piece (Elt F) S200x1024 .f32) //
      ∀ (xi19 : Vec F S1x1024 .f32) (xi20 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xi20 ∗ owns (c : Thread nD τ) arg22 fullShare xs0 ∗ owns (c : Thread nD τ) arg23 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xi20 ∗ (∃ f, arg22.view.loc (c : Thread nD τ) ↦[arg22.view.set]{fullShare} arg22.view.writes (Elt F) f LS0) ∗ owns (c : Thread nD τ) arg23 fullShare xs1) -∗ K ⟨⟩))
          ⊢ wp frame (wpE (defs₀ (F := F)) Variants.none c none) E (cc0__augru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, [], fun xi19 xi20 E K => ?run⟩
  case run =>
    simp only [cc0__augru_kernel_eq_skeleton]; unfold cc0__augru_kernel_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hfs0; obtain rfl := harg23.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [HS0]; · iexists _; iexact HS0
    iexists _; isplitr; · ipureintro; exact harg23.read_unread _
    iexact HS1

end Cert.Kernel2Ideal.Gen

end
-- ==== Proof.KJ.RunC.lean ====
module

public import proofs.«01_k».proof.Proof.KJ.RunB

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE C (`scf.if` 0 not taken, `scf.if` 1 taken: points 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) :
    Σ' (L19 : List (View.Piece (Elt F) S1x1024 .f32)), Σ' (L20 : List (View.Piece (Elt F) S1x1 .f32)), Σ' (LS0 : List (View.Piece (Elt F) S30x1024 .f32)), { LS1 : List (View.Piece (Elt F) S200x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare xs0 ∗ owns (c : Thread nD τ) arg23 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0) ∗ owns (c : Thread nD τ) arg23 fullShare xs1) -∗ K ⟨⟩))
          ⊢ wp frame (wpE (defs₀ (F := F)) Variants.none c none) E (cc0__augru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, [], fun E K => ?run⟩
  case run =>
    simp only [cc0__augru_kernel_eq_skeleton]; unfold cc0__augru_kernel_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg22.eq_unread hfs0; obtain rfl := harg23.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [HS0]; · iexists _; iexact HS0
    iexists _; isplitr; · ipureintro; exact harg23.read_unread _
    iexact HS1

end Cert.Kernel2Ideal.Gen

end
-- ==== Proof.KJ.Frame.lean ====
module

public import proofs.«01_k».proof.Proof.KJ.RunC
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 19 (the window is idle at its points and not written back there):
    no pieces — a placeholder (junk read back) that nothing consults, since at these points the window is neither
    written back nor read at the next point (Lib/Pipeline.lean "Idle points"). -/
def out0_A_19 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) : Vec F S1x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).1)

/-- Case A stores nothing into output 20 (the window is idle at its points and not written back there):
    no pieces — a placeholder (junk read back) that nothing consults, since at these points the window is neither
    written back nor read at the next point (Lib/Pipeline.lean "Idle points"). -/
def out0_A_20 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) : Vec F S1x1 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.1)

/-- Case A's pieces for scratch `arg22`, which the kernel carries between points, cover it: 2 pieces of `S30x1024` tiling it (Lib/Ring.lean `Piece.tiledL`). -/
theorem scover0_A_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (y : S30x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.1 S30x1024.size (by sl_kernel_rfl) y

/-- What case A leaves in scratch `arg22`: its pieces read back over junk. -/
def sout0_A_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) : Vec F S30x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.1)

/-- Case A's pieces for scratch `arg23`, which the kernel carries between points, cover it: 1 piece of `S200x1024` tiling it (Lib/Ring.lean `Piece.tiledL`). -/
theorem scover0_A_1 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (y : S200x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.2.1 S200x1024.size (by sl_kernel_rfl) y

/-- What case A leaves in scratch `arg23`: its pieces read back over junk. -/
def sout0_A_1 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) : Vec F S200x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18).2.2.2.1)

/-- Case B stores nothing into output 19 (the window is idle at its points and not written back there):
    no pieces — a placeholder (junk read back) that nothing consults, since at these points the window is neither
    written back nor read at the next point (Lib/Pipeline.lean "Idle points"). -/
def out0_B_19 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S1x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).1)

/-- Case B stores nothing into output 20 (the window is idle at its points and not written back there):
    no pieces — a placeholder (junk read back) that nothing consults, since at these points the window is neither
    written back nor read at the next point (Lib/Pipeline.lean "Idle points"). -/
def out0_B_20 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S1x1 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.1)

/-- Case B's pieces for scratch `arg22`, which the kernel carries between points, cover it: 1 piece of `S30x1024` tiling it (Lib/Ring.lean `Piece.tiledL`). -/
theorem scover0_B_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) (y : S30x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1 S30x1024.size (by sl_kernel_rfl) y

/-- What case B leaves in scratch `arg22`: its pieces read back over junk. -/
def sout0_B_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S30x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1)

/-- Case B stores nothing into scratch `arg23`: it holds what the point before left. -/
def sout0_B_1 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : ¬cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S200x1024 .f32 := xs1

/-- Case C's pieces for output 19 tile its block (1 store of `S1x1024`, checked by the kernel's evaluation: Lib/Ring.lean `Piece.tiledL`, linear in the pieces, through a loop's `@[irreducible]` trip theorem too), so they cover it. -/
theorem cover0_C_19 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).1 S1x1024.size (by sl_kernel_rfl) y

/-- What case C leaves in output 19's staging buffer: its pieces read back over junk. -/
def out0_C_19 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S1x1024 .f32 :=
  VO0_19.read (Elt F) (VO0_19.writes (Elt F) VO0_19.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).1)

/-- Case C's pieces for output 20 tile its block (1 store of `S1x1`, checked by the kernel's evaluation: Lib/Ring.lean `Piece.tiledL`, linear in the pieces, through a loop's `@[irreducible]` trip theorem too), so they cover it. -/
theorem cover0_C_20 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) (y : S1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.1 S1x1.size (by sl_kernel_rfl) y

/-- What case C leaves in output 20's staging buffer: its pieces read back over junk. -/
def out0_C_20 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S1x1 .f32 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.1)

/-- Case C's pieces for scratch `arg22`, which the kernel carries between points, cover it: 1 piece of `S30x1024` tiling it (Lib/Ring.lean `Piece.tiledL`). -/
theorem scover0_C_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) (y : S30x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1 S30x1024.size (by sl_kernel_rfl) y

/-- What case C leaves in scratch `arg22`: its pieces read back over junk. -/
def sout0_C_0 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S30x1024 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 x18 xs0 xs1).2.2.1)

/-- Case C stores nothing into scratch `arg23`: it holds what the point before left. -/
def sout0_C_1 (c : Dev nD) (i : grid0.Coords) (arg1 : Memref sig .tc .vmem S5x30x8192 .bf16) (harg1 : arg1.IsWhole) (arg2 : Memref sig .tc .vmem S200x1024 .f32) (harg2 : arg2.IsWhole) (arg3 : Memref sig .tc .vmem S1x1024 .i32) (harg3 : arg3.IsWhole) (arg4 : Memref sig .tc .vmem S96x30 .bf16) (harg4 : arg4.IsWhole) (arg5 : Memref sig .tc .vmem S96x30 .f32) (harg5 : arg5.IsWhole) (arg6 : Memref sig .tc .vmem S30x1024 .f32) (harg6 : arg6.IsWhole) (arg7 : Memref sig .tc .vmem S300x1024 .f32) (harg7 : arg7.IsWhole) (arg8 : Memref sig .tc .vmem S1x8192 .f32) (harg8 : arg8.IsWhole) (arg9 : Memref sig .tc .vmem S64x30 .f32) (harg9 : arg9.IsWhole) (arg10 : Memref sig .tc .vmem S64x300 .f32) (harg10 : arg10.IsWhole) (arg11 : Memref sig .tc .vmem S64x30 .f32) (harg11 : arg11.IsWhole) (arg12 : Memref sig .tc .vmem S64x1 .f32) (harg12 : arg12.IsWhole) (arg13 : Memref sig .tc .vmem S16x64 .f32) (harg13 : arg13.IsWhole) (arg14 : Memref sig .tc .vmem S16x1 .f32) (harg14 : arg14.IsWhole) (arg15 : Memref sig .tc .vmem S1x16 .f32) (harg15 : arg15.IsWhole) (arg16 : Memref sig .tc .vmem S1x1 .f32) (harg16 : arg16.IsWhole) (arg17 : Memref sig .tc .vmem S64x1 .f32) (harg17 : arg17.IsWhole) (arg18 : Memref sig .tc .vmem S16x1 .f32) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1 .f32) (harg21 : arg21.IsWhole) (arg22 : Memref sig .tc .vmem S30x1024 .f32) (harg22 : arg22.IsWhole) (arg23 : Memref sig .tc .vmem S200x1024 .f32) (harg23 : arg23.IsWhole) (hc0 : ¬cond0_0 i) (hc1 : cond0_1 i)
    (x0 : Vec F S5x30x8192 .bf16) (x1 : Vec F S200x1024 .f32) (x2 : Vec F S1x1024 .i32) (x3 : Vec F S96x30 .bf16) (x4 : Vec F S96x30 .f32) (x5 : Vec F S30x1024 .f32) (x6 : Vec F S300x1024 .f32) (x7 : Vec F S1x8192 .f32) (x8 : Vec F S64x30 .f32) (x9 : Vec F S64x300 .f32) (x10 : Vec F S64x30 .f32) (x11 : Vec F S64x1 .f32) (x12 : Vec F S16x64 .f32) (x13 : Vec F S16x1 .f32) (x14 : Vec F S1x16 .f32) (x15 : Vec F S1x1 .f32) (x16 : Vec F S64x1 .f32) (x17 : Vec F S16x1 .f32) (x18 : Vec F S1x1 .f32) (xs0 : Vec F S30x1024 .f32) (xs1 : Vec F S200x1024 .f32) : Vec F S200x1024 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024 .f32 × Vec F S1x1 .f32 × Vec F S30x1024 .f32 × Vec F S200x1024 .f32
  | 0, hn => (out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩))
  | n + 1, hn =>
    if h0 : (n + 1) % 5 = 0 then
      if h1 : (n + 1) % 5 = 4 then
        False.elim (by have hN : n + 1 < 5 := lt_of_lt_of_eq hn (show cfg0.N = 5 from N_0); omega)
      else
        (out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩))
    else
      if h1 : (n + 1) % 5 = 4 then
        (out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2)
      else
        (out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 5 = 0) (h1 : ¬t.val % 5 = 4) :
    outsAt0 m c t.val t.isLt = (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 5 = 0) (h1 : ¬t.val % 5 = 4) :
    outsAt0 m c t.val t.isLt = (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 5 = 0) (h1 : t.val % 5 = 4) :
    outsAt0 m c t.val t.isLt = (out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

/-- The scratch resource before the first point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨_ + 21, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the window 1 staging buffer holds after the body of point `t`: its input block. -/
theorem after0_1 (c : Dev nD) (t : Fin cfg0.N) : (dats m 0 c).after 1 t = iblk m c 1 t := by dsimp only [dats]
/-- What the window 2 staging buffer holds after the body of point `t`: its input block. -/
theorem after0_2 (c : Dev nD) (t : Fin cfg0.N) : (dats m 0 c).after 2 t = iblk m c 2 t := by dsimp only [dats]
/-- What the window 3 staging buffer holds after the body of point `t`: its input block. -/
theorem after0_3 (c : Dev nD) (t : Fin cfg0.N) : (dats m 0 c).after 3 t = iblk m c 3 t := by dsimp only [dats]
/-- What the window 4 staging buffer holds after the body of point `t`: its input block. -/
theorem after0_4 (c : Dev nD) (t : Fin cfg0.N) : (dats m 0 c).after 4 t = iblk m c 4 t := by dsimp only [dats]
/-- What the window 5 staging buffer holds after the body of point `t`: its input block. -/
theorem after0_5 (c : Dev nD) (t : Fin cfg0.N) : (dats m 0 c).after 5 t = iblk m c 5 t := by dsimp only [dats]
/-- What the window 6 staging buffer holds after the body of point `t`: its input block. -/
theorem after0_6 (c : Dev nD) (t : Fin cfg0.N) : (dats m 0 c).after 6 t = iblk m c 6 t := by dsimp only [dats]
/-- What the window 7 staging buffer holds after the body of point `t`: its input block. -/
theorem after0_7 (c : Dev nD) (t : Fin cfg0.N) : (dats m 0 c).after 7 t = iblk m c 7 t := by dsimp only [dats]
/-- What the window 8 staging buffer holds after the body of point `t`: its input block. -/
theorem after0_8 (c : Dev nD) (t : Fin cfg0.N) : (dats m 0 c).after 8 t = iblk m c 8 t := by dsimp only [dats]
/-- What the window 9 staging buffer holds after the body of point `t`: its input block. -/
theorem after0_9 (c : Dev nD) (t : Fin cfg0.N) : (dats m 0 c).after 9 t = iblk m c 9 t := by dsimp only [dats]
/-- What the window 10 staging buffer holds after the body of point `t`: its input block. -/
theorem after0_10 (c : Dev nD) (t : Fin cfg0.N) : (dats m 0 c).after 10 t = iblk m c 10 t := by dsimp only [dats]
/-- What the window 11 staging buffer holds after the body of point `t`: its input block. -/
theorem after0_11 (c : Dev nD) (t : Fin cfg0.N) : (dats m 0 c).after 11 t = iblk m c 11 t := by dsimp only [dats]
/-- What the window 12 staging buffer holds after the body of point `t`: its input block. -/
theorem after0_12 (c : Dev nD) (t : Fin cfg0.N) : (dats m 0 c).after 12 t = iblk m c 12 t := by dsimp only [dats]
/-- What the window 13 staging buffer holds after the body of point `t`: its input block. -/
theorem after0_13 (c : Dev nD) (t : Fin cfg0.N) : (dats m 0 c).after 13 t = iblk m c 13 t := by dsimp only [dats]
/-- What the window 14 staging buffer holds after the body of point `t`: its input block. -/
theorem after0_14 (c : Dev nD) (t : Fin cfg0.N) : (dats m 0 c).after 14 t = iblk m c 14 t := by dsimp only [dats]
/-- What the window 15 staging buffer holds after the body of point `t`: its input block. -/
theorem after0_15 (c : Dev nD) (t : Fin cfg0.N) : (dats m 0 c).after 15 t = iblk m c 15 t := by dsimp only [dats]
/-- What the window 16 staging buffer holds after the body of point `t`: its input block. -/
theorem after0_16 (c : Dev nD) (t : Fin cfg0.N) : (dats m 0 c).after 16 t = iblk m c 16 t := by dsimp only [dats]
/-- What the window 17 staging buffer holds after the body of point `t`: its input block. -/
theorem after0_17 (c : Dev nD) (t : Fin cfg0.N) : (dats m 0 c).after 17 t = iblk m c 17 t := by dsimp only [dats]
/-- What the window 18 staging buffer holds after the body of point `t`: its input block. -/
theorem after0_18 (c : Dev nD) (t : Fin cfg0.N) : (dats m 0 c).after 18 t = iblk m c 18 t := by dsimp only [dats]
/-- What the window 19 staging buffer holds after the body of point `t`: the run's contents for it. -/
theorem after0_19 (c : Dev nD) (t : Fin cfg0.N) : (dats m 0 c).after 19 t = (outsAt0 m c t.val t.isLt).1 := by dsimp only [dats]
/-- What the window 20 staging buffer holds after the body of point `t`: the run's contents for it. -/
theorem after0_20 (c : Dev nD) (t : Fin cfg0.N) : (dats m 0 c).after 20 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the window 1 staging buffer holds before the body of point `t`: its input block. -/
theorem before0_1 (c : Dev nD) (t : Fin cfg0.N) (d) : (dats m 0 c).before 1 t d = iblk m c 1 t :=
  before0_1_of m (dats m 0 c) (A_eq m c 1) (after0_1 m c) t d
/-- What the window 2 staging buffer holds before the body of point `t`: its input block. -/
theorem before0_2 (c : Dev nD) (t : Fin cfg0.N) (d) : (dats m 0 c).before 2 t d = iblk m c 2 t :=
  before0_2_of m (dats m 0 c) (A_eq m c 2) (after0_2 m c) t d
/-- What the window 3 staging buffer holds before the body of point `t`: its input block. -/
theorem before0_3 (c : Dev nD) (t : Fin cfg0.N) (d) : (dats m 0 c).before 3 t d = iblk m c 3 t :=
  before0_3_of m (dats m 0 c) (A_eq m c 3) (after0_3 m c) t d
/-- What the window 4 staging buffer holds before the body of point `t`: its input block. -/
theorem before0_4 (c : Dev nD) (t : Fin cfg0.N) (d) : (dats m 0 c).before 4 t d = iblk m c 4 t :=
  before0_4_of m (dats m 0 c) (A_eq m c 4) (after0_4 m c) t d
/-- What the window 5 staging buffer holds before the body of point `t`: its input block. -/
theorem before0_5 (c : Dev nD) (t : Fin cfg0.N) (d) : (dats m 0 c).before 5 t d = iblk m c 5 t :=
  before0_5_of m (dats m 0 c) (A_eq m c 5) (after0_5 m c) t d
/-- What the window 6 staging buffer holds before the body of point `t`: its input block. -/
theorem before0_6 (c : Dev nD) (t : Fin cfg0.N) (d) : (dats m 0 c).before 6 t d = iblk m c 6 t :=
  before0_6_of m (dats m 0 c) (A_eq m c 6) (after0_6 m c) t d
/-- What the window 7 staging buffer holds before the body of point `t`: its input block. -/
theorem before0_7 (c : Dev nD) (t : Fin cfg0.N) (d) : (dats m 0 c).before 7 t d = iblk m c 7 t :=
  before0_7_of m (dats m 0 c) (A_eq m c 7) (after0_7 m c) t d
/-- What the window 8 staging buffer holds before the body of point `t`: its input block. -/
theorem before0_8 (c : Dev nD) (t : Fin cfg0.N) (d) : (dats m 0 c).before 8 t d = iblk m c 8 t :=
  before0_8_of m (dats m 0 c) (A_eq m c 8) (after0_8 m c) t d
/-- What the window 9 staging buffer holds before the body of point `t`: its input block. -/
theorem before0_9 (c : Dev nD) (t : Fin cfg0.N) (d) : (dats m 0 c).before 9 t d = iblk m c 9 t :=
  before0_9_of m (dats m 0 c) (A_eq m c 9) (after0_9 m c) t d
/-- What the window 10 staging buffer holds before the body of point `t`: its input block. -/
theorem before0_10 (c : Dev nD) (t : Fin cfg0.N) (d) : (dats m 0 c).before 10 t d = iblk m c 10 t :=
  before0_10_of m (dats m 0 c) (A_eq m c 10) (after0_10 m c) t d
/-- What the window 11 staging buffer holds before the body of point `t`: its input block. -/
theorem before0_11 (c : Dev nD) (t : Fin cfg0.N) (d) : (dats m 0 c).before 11 t d = iblk m c 11 t :=
  before0_11_of m (dats m 0 c) (A_eq m c 11) (after0_11 m c) t d
/-- What the window 12 staging buffer holds before the body of point `t`: its input block. -/
theorem before0_12 (c : Dev nD) (t : Fin cfg0.N) (d) : (dats m 0 c).before 12 t d = iblk m c 12 t :=
  before0_12_of m (dats m 0 c) (A_eq m c 12) (after0_12 m c) t d
/-- What the window 13 staging buffer holds before the body of point `t`: its input block. -/
theorem before0_13 (c : Dev nD) (t : Fin cfg0.N) (d) : (dats m 0 c).before 13 t d = iblk m c 13 t :=
  before0_13_of m (dats m 0 c) (A_eq m c 13) (after0_13 m c) t d
/-- What the window 14 staging buffer holds before the body of point `t`: its input block. -/
theorem before0_14 (c : Dev nD) (t : Fin cfg0.N) (d) : (dats m 0 c).before 14 t d = iblk m c 14 t :=
  before0_14_of m (dats m 0 c) (A_eq m c 14) (after0_14 m c) t d
/-- What the window 15 staging buffer holds before the body of point `t`: its input block. -/
theorem before0_15 (c : Dev nD) (t : Fin cfg0.N) (d) : (dats m 0 c).before 15 t d = iblk m c 15 t :=
  before0_15_of m (dats m 0 c) (A_eq m c 15) (after0_15 m c) t d
/-- What the window 16 staging buffer holds before the body of point `t`: its input block. -/
theorem before0_16 (c : Dev nD) (t : Fin cfg0.N) (d) : (dats m 0 c).before 16 t d = iblk m c 16 t :=
  before0_16_of m (dats m 0 c) (A_eq m c 16) (after0_16 m c) t d
/-- What the window 17 staging buffer holds before the body of point `t`: its input block. -/
theorem before0_17 (c : Dev nD) (t : Fin cfg0.N) (d) : (dats m 0 c).before 17 t d = iblk m c 17 t :=
  before0_17_of m (dats m 0 c) (A_eq m c 17) (after0_17 m c) t d
/-- What the window 18 staging buffer holds before the body of point `t`: its input block. -/
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
      rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        iintro ⟨H0, H1, H2, H3, H4, H5, H6, H7, H8, H9, H10, H11, H12, H13, H14, H15, H16, H17, H18, H19, H20, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        iexists _; iexact H20
      · exfalso; have hN : t.val < 5 := lt_of_lt_of_eq t.isLt (show cfg0.N = 5 from N_0); omega
  · by_cases h1 : t.val % 5 = 4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19_C t (fun h => h0 ((hcond0_0 t).mp h)) ((hcond0_1 t).mpr h1)], after0_19]
      rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_1 t).mpr h1)], after0_20]
      by_cases hz : t.val = 0
      · exfalso; have hN : t.val < 5 := lt_of_lt_of_eq t.isLt (show cfg0.N = 5 from N_0); omega
      · rw [PhiS_castSucc m c t, PhiS_pos m c _ _ hz]
        rw [outsAt0_C m c t h0 h1]
        unfold out0_C_19 out0_C_20 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [HS0]; · iexact HS0
        isplitl [HS1]; · iexact HS1
        iintro ⟨H0, H1, H2, H3, H4, H5, H6, H7, H8, H9, H10, H11, H12, H13, H14, H15, H16, H17, H18, ⟨%e19, H19⟩, ⟨%e20, H20⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H20
        ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
      rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
      by_cases hz : t.val = 0
      · exfalso; have hN : t.val < 5 := lt_of_lt_of_eq t.isLt (show cfg0.N = 5 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        iintro ⟨H0, H1, H2, H3, H4, H5, H6, H7, H8, H9, H10, H11, H12, H13, H14, H15, H16, H17, H18, H19, H20, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        iexists _; iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel2Ideal.Gen

end
-- ==== Proof.Same.lean ====
module

public import proofs.«01_k».proof.Defs
public import proofs.«01_k».proof.Proof.Gen.Kernel
public import proofs.«01_k».proof.Proof.KI.Frame
public import proofs.«01_k».proof.Proof.Gen.Kernel2
public import proofs.«01_k».proof.Proof.KJ.Frame

@[expose] public section

set_option maxRecDepth 65536

noncomputable section

/-! The kernel and its idealization are the same program in two prints, read with machine floats and with ideal ones. What holds of
the second print for every kind of float therefore holds of the first. -/

namespace Cert.Own.Same

open Idealize.ShloMosaic Idealize.SL.Sem

/-- The frame of the first call's kernel. -/
theorem frame_k : Cert.quiescent_Kernel (hKernel := Cert.Kernel.Gen.facts) := fun m g _ =>
  Eq.mp (by sl_kernel_rfl) (Cert.KernelIdeal.Gen.frame (F := Bits) m g)

/-- The frame of the second call's kernel. -/
theorem frame_k2 : Cert.quiescent_Kernel2 (hKernel2 := Cert.Kernel2.Gen.facts) := fun m g _ =>
  Eq.mp (by sl_kernel_rfl) (Cert.Kernel2Ideal.Gen.frame (F := Bits) m g)

end Cert.Own.Same

end
-- ==== Proof.KJ.Value.lean ====
module

public import proofs.«01_k».proof.Proof.KJ.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 20's array: the run's contents for that window after the body (`Gen.outsAt0`: its component 1), read through the window's block. -/
theorem flushed20 (c : Dev nD) (t : Fin cfg0.N) :
    (dats m 0 c).flushed 20 t = (cfg0.win 20).cut (grid0.coords t) ((outsAt0 m c t.val t.isLt).2.1) := by
  show (cfg0.win 20).cut (grid0.coords t) ((dats m 0 c).after 20 t) = _
  rw [after0_20]

/-- … so at a point where case C runs, what its write-back would write is that case's NAMED TERM for the window (`Gen.out0_C_20`: the pieces
    its run found, read back) at the point's memrefs and input blocks, and for an output the case reads back what the point before left (`Gen.outsAt0` at `t - 1`) — by the frame's rewriting lemma for the case. -/
theorem flushed20_C (c : Dev nD) (t : Fin cfg0.N) (h0 : ¬t.val % 5 = 0) (h1 : t.val % 5 = 4) :
    (dats m 0 c).flushed 20 t = (cfg0.win 20).cut (grid0.coords t) (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed20, outsAt0_C m c t h0 h1]

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v30_1) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 7 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 7).trans (((dats m 0 c).arrAt_in 7 rfl _).trans ((A_eq m c 7).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The printed index map, decided over the grid: output window 20's block indices stay in the box, and the block number
    read off them is the point's (`t / 5`). -/
theorem idx_facts20 : ∀ t : Fin cfg0.N, 0 ≤ win0_20.index t (0 : Fin 2) ∧ win0_20.index t (0 : Fin 2) ≤ 0
    ∧ 0 ≤ win0_20.index t (1 : Fin 2) ∧ win0_20.index t (1 : Fin 2) ≤ 0
    ∧ 1 * (win0_20.index t (0 : Fin 2) - 0) + 1 * (win0_20.index t (1 : Fin 2) - 0) = t.val / 5 :=
  (by decide +kernel : ∀ t : Fin grid0.N, _)

/-- Every block of the box is SOME flushing point's: `onto20Pt`, the point that writes back the block at place `q` of the box (the last point of its run). -/
abbrev onto20Pt (q0 : Fin 1) (q1 : Fin 1) : Fin grid0.N :=
  ⟨5 * (1 * q0.val + 1 * q1.val) + 4, lt_of_lt_of_eq (by omega) N_0.symm⟩
/-- … and the printed index map sends that point to the place `q` of the box. -/
theorem idx_onto20 : ∀ (q0 : Fin 1) (q1 : Fin 1), ∃ t : Fin cfg0.N, (cfg0.win 20).flush t = true ∧ win0_20.index t = ![q0.val + 0, q1.val + 0] :=
  fun q0 q1 => ⟨onto20Pt q0 q1, (by decide +kernel : ∀ (q0 : Fin 1) (q1 : Fin 1), win0_20.flush (onto20Pt q0 q1) = true ∧ win0_20.index (onto20Pt q0 q1) = ![q0.val + 0, q1.val + 0]) q0 q1⟩

/-- An index of the array is in point `t`'s block iff each coordinate is in the block's range on its axis. -/
theorem mem_blk20 (t : Fin cfg0.N) (i : S1x1.Idx) :
    i ∈ ((cfg0.win 20).blk t).view.set ↔ ∀ a : Fin 2, win0_20.index t a * S1x1.size a ≤ (i a).val ∧ (i a).val < win0_20.index t a * S1x1.size a + S1x1.size a := by
  show i ∈ ((View.whole main_v30_1).slice (win0_20.rect t)).set ↔ _
  rw [View.set_slice_whole, Rect.mem_set_unit]
  exact Iff.rfl

/-- THE COVERED INDICES: in some flushing point's block iff inside the box those blocks fill. -/
theorem covered_iff20 (i : S1x1.Idx) :
    (∃ t : Fin cfg0.N, (cfg0.win 20).flush t = true ∧ i ∈ ((cfg0.win 20).blk t).view.set) ↔ 0 ≤ (i 0).val ∧ (i 0).val < 1 ∧ 0 ≤ (i 1).val ∧ (i 1).val < 1 := by
  constructor
  · rintro ⟨t, -, hi⟩
    rw [mem_blk20] at hi
    have b0 : win0_20.index t (0 : Fin 2) * 1 ≤ (i 0).val ∧ (i 0).val < win0_20.index t (0 : Fin 2) * 1 + 1 := hi 0
    have b1 : win0_20.index t (1 : Fin 2) * 1 ≤ (i 1).val ∧ (i 1).val < win0_20.index t (1 : Fin 2) * 1 + 1 := hi 1
    obtain ⟨e0, e1, e2⟩ := idx_facts20 t
    omega
  · intro h
    have hi0 : (i 0).val < 1 := (i 0).isLt
    have hi1 : (i 1).val < 1 := (i 1).isLt
    obtain ⟨t, hft, ht⟩ := idx_onto20 ⟨(i 0).val / 1 - 0, by omega⟩ ⟨(i 1).val / 1 - 0, by omega⟩
    have q0 : win0_20.index t (0 : Fin 2) = (i 0).val / 1 - 0 + 0 := congrFun ht 0
    have q1 : win0_20.index t (1 : Fin 2) = (i 1).val / 1 - 0 + 0 := congrFun ht 1
    refine ⟨t, hft, ?_⟩
    rw [mem_blk20]
    intro a
    match a with
    | ⟨0, _⟩ => show win0_20.index t (0 : Fin 2) * 1 ≤ (i 0).val ∧ (i 0).val < win0_20.index t (0 : Fin 2) * 1 + 1; omega
    | ⟨1, _⟩ => show win0_20.index t (1 : Fin 2) * 1 ≤ (i 1).val ∧ (i 1).val < win0_20.index t (1 : Fin 2) * 1 + 1; omega

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v30_1) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Kernel2Ideal.Value

end
-- ==== Proof.K2.Ref.lean ====
module

public import proofs.«01_k».proof.Proof.Gen.Reference2Ideal
public import Idealize.ShloMosaic.Lib.Pointwise
public import Idealize.ShloMosaic.Lib.ValueIdx

@[expose] public section

set_option maxRecDepth 16384

noncomputable section

namespace Cert.Own.Loss

open Idealize.ShloMosaic Cert.Reference2Ideal Cert.Reference2Ideal.Gen

/-- The first `a` of `n` terms are one and the others zero: their sum is `a`. -/
theorem count_nat (n a : ℕ) (h : a ≤ n) : ∑ k : Fin n, (if k.val < a then 1 else 0 : ℕ) = a := by
  rw [Finset.sum_boole, Nat.cast_id, Fin.card_filter_val_lt, min_eq_right h]

/-- Whether step `k + 1` lies below the length, as a word of one bit: its value. -/
theorem below (n : BitVec 32) (h1 : 1 ≤ n.toInt) (h2 : n.toInt ≤ 200) (k : Fin 199) :
    (IntOp.cmpi CmpIPredicate.slt (BitVec.ofNat 32 (1 + k.val)) n).toNat = if k.val < (n.toInt - 1).toNat then 1 else 0 := by
  have hk := k.isLt
  have e : (BitVec.ofNat 32 (1 + k.val)).toInt = 1 + k.val := by
    rw [BitVec.toInt_eq_toNat_of_lt (by rw [BitVec.toNat_ofNat]; omega), BitVec.toNat_ofNat, Nat.mod_eq_of_lt (by omega)]
    push_cast
    rfl
  show (BitVec.ofBool (decide ((BitVec.ofNat 32 (1 + k.val)).toInt < n.toInt))).toNat = _
  rw [e]
  by_cases h : (1 + (k.val : ℤ)) < n.toInt
  · rw [decide_eq_true h, if_pos (by omega)]
    rfl
  · rw [decide_eq_false h, if_neg (by omega)]
    rfl

/-- A sum of naturals, read as an extended real term by term. -/
theorem sum_cast {ι : Type} (s : Finset ι) (f : ι → ℕ) : ∑ k ∈ s, (((f k : ℕ) : ℝ) : EReal) = (((∑ k ∈ s, f k : ℕ) : ℝ) : EReal) := by
  classical
  induction s using Finset.induction_on with
  | empty => simp
  | insert a s h ih => rw [Finset.sum_insert h, Finset.sum_insert h, ih, Nat.cast_add, EReal.coe_add]

/-- The number of steps that count in a row of length `n`: those from the second one on that lie below the length. -/
theorem count (n : BitVec 32) (h1 : 1 ≤ n.toInt) (h2 : n.toInt ≤ 200) :
    ∑ k : Fin 199, (FloatOps.uitofp FTy.f32 (IntOp.cmpi CmpIPredicate.slt (BitVec.ofNat 32 (1 + k.val)) n) : Ideal .f32) = (((n.toInt - 1 : ℤ) : ℝ) : EReal) := by
  have e : ∀ k : Fin 199, (FloatOps.uitofp (F := Ideal) FTy.f32 (IntOp.cmpi CmpIPredicate.slt (BitVec.ofNat 32 (1 + k.val)) n) : EReal) = (((if k.val < (n.toInt - 1).toNat then 1 else 0 : ℕ) : ℝ) : EReal) :=
    fun k => congrArg (fun z : ℕ => (((z : ℕ) : ℝ) : EReal)) (below n h1 h2 k)
  refine (Finset.sum_congr rfl fun k _ => e k).trans ?_
  have c := congrArg (fun z : ℕ => ((z : ℝ) : EReal)) (count_nat 199 (n.toInt - 1).toNat (by omega))
  have z : (((n.toInt - 1).toNat : ℤ) : ℝ) = ((n.toInt - 1 : ℤ) : ℝ) := congrArg _ (Int.toNat_of_nonneg (by omega))
  rw [← z, Int.cast_natCast, ← c]
  exact sum_cast _ _

/-- The mask of the steps that count, at a row and a step. -/
theorem mask_at (L : IVec S1024 32) (b : Fin 1024) (k : Fin 199) :
    (uitofp .f32 (extractStridedSlice S1024x199 ![0, 1] (cmpi .slt (broadcastInDim S1024x200 ![0, 1] bcast_S1x200_S1024x200_0_1 (broadcastInDim S1x200 ![1] bcast_S200_S1x200_1 (iotaInDim S200 32 0))) (broadcastInDim S1024x200 ![0, 1] bcast_S1024x1_S1024x200_0_1 (broadcastInDim S1024x1 ![0] bcast_S1024_S1024x1_0 L))) slices_S1024x200_S1024x199_0_1) : FVec Ideal S1024x199 .f32) (ix2 b k)
      = FloatOps.uitofp FTy.f32 (IntOp.cmpi CmpIPredicate.slt (BitVec.ofNat 32 (1 + k.val)) (L (ix1 b))) := by
  pointwise

/-- The loss: the sum of the terms over the number of steps that count, which is at least one. -/
def loss (x : Fin 8192 → EReal) (L : Fin 1024 → BitVec 32) : EReal :=
  Ideal.div (∑ l, x l) (max (∑ b, ((((L b).toInt - 1 : ℤ) : ℝ) : EReal)) 1)

/-- The whole sum of a matrix, from zero. -/
theorem total {n0 n1 : ℕ} (v : FVec Ideal ⟨2, ![n0, n1]⟩ .f32) (h : (⟨2, ![n0, n1]⟩ : Shape).ReducesTo [0, 1] S_) (j : S_.Idx) :
    Host.reduceAdd v (constant S_ .f32 0x00000000#32) h h_S_ j = ∑ a : Fin n0, ∑ b : Fin n1, v (ix2 a b) := by
  rw [Host.reduceAdd_apply]
  refine (Ideal.hostReduceAdd_total h (fun b => b.elim0) v _ j).trans ?_
  rw [sum_idx2]
  have z : (constant S_ .f32 0x00000000#32 : FVec Ideal S_ .f32) (Shape.Idx.first h_S_) = 0 := by pointwise
  rw [z, zero_add]

/-- The reference's result from its sums. -/
theorem ratio (a b : FVec Ideal S_ .f32) (A B : EReal) (ha : ∀ j, a j = A) (hb : ∀ j, b j = B) (j : S1x1.Idx) :
    (shapeCast S1x1 (Host.divf a (maximumf b (constant S_ .f32 0x3F800000#32))) shapeCasts_S_S1x1 : FVec Ideal S1x1 .f32) j = Ideal.div A (max B 1) := by
  have o : ∀ i, (constant S_ .f32 0x3F800000#32 : FVec Ideal S_ .f32) i = 1 := fun i => by pointwise
  show Ideal.div (a _) (max (b _) _) = _
  rw [ha, hb]
  exact congrArg (fun z => Ideal.div A (max B z)) (o _)

/-- The reference's result is the loss. -/
theorem ref_at (x : FVec Ideal S1x8192 .f32) (L : IVec S1024 32) (h1 : ∀ b, 1 ≤ (L (ix1 b)).toInt) (h2 : ∀ b, (L (ix1 b)).toInt ≤ 200) (j : S1x1.Idx) :
    (shapeCast S1x1 (Host.divf (Host.reduceAdd x (constant S_ .f32 0x00000000#32) reducesTo_S1x8192_S_d0_1 h_S_) (maximumf (Host.reduceAdd (uitofp .f32 (extractStridedSlice S1024x199 ![0, 1] (cmpi .slt (broadcastInDim S1024x200 ![0, 1] bcast_S1x200_S1024x200_0_1 (broadcastInDim S1x200 ![1] bcast_S200_S1x200_1 (iotaInDim S200 32 0))) (broadcastInDim S1024x200 ![0, 1] bcast_S1024x1_S1024x200_0_1 (broadcastInDim S1024x1 ![0] bcast_S1024_S1024x1_0 L))) slices_S1024x200_S1024x199_0_1)) (constant S_ .f32 0x00000000#32) reducesTo_S1024x199_S_d0_1 h_S_) (constant S_ .f32 0x3F800000#32))) shapeCasts_S_S1x1 : FVec Ideal S1x1 .f32) j
      = loss (fun l => x (ix2 0 l)) (fun b => L (ix1 b)) := by
  refine ratio _ _ _ _ (fun j => (total _ _ j).trans ?_) (fun j => (total _ _ j).trans ?_) j
  · exact Fin.sum_univ_one _
  · exact Finset.sum_congr rfl fun b _ => (Finset.sum_congr rfl fun k _ => mask_at L b k).trans (count _ (h1 b) (h2 b))

end Cert.Own.Loss

end
-- ==== Proof.K2.Pay.lean ====
module

public import proofs.«01_k».proof.Proof.Gen.Kernel2Ideal.Skeleton
public import proofs.«01_k».proof.Proof.K2.Ref

@[expose] public section

set_option maxRecDepth 16384

noncomputable section

namespace Cert.Own.Loss

open Idealize.ShloMosaic Cert.Kernel2Ideal Cert.Kernel2Ideal.Gen

/-- One less than a length of at least one, as an integer. -/
theorem pred_toInt (n : BitVec 32) (h1 : 1 ≤ n.toInt) (h2 : n.toInt ≤ 200) : (IntOp.subi n 1#32).toInt = n.toInt - 1 := by
  show (n - 1#32).toInt = _
  rw [BitVec.toInt_sub, show (1#32 : BitVec 32).toInt = 1 from by decide, Int.bmod_eq_of_le] <;> omega

/-- What the kernel's last point stores is the loss. -/
theorem pay3_at (L : Vec Ideal S1x1024 .i32) (x : Vec Ideal S1x8192 .f32) (h1 : ∀ b, 1 ≤ (L (ix2 0 b)).toInt) (h2 : ∀ b, (L (ix2 0 b)).toInt ≤ 200) (j : S1x1.Idx) :
    k0_pay3 (F := Ideal) L x j = loss (fun l => x (ix2 0 l)) (fun b => L (ix2 0 b)) := by
  have s : ∀ b, (FloatOps.sitofp FTy.f32 (IntOp.subi (L (ix2 0 b)) 1#32) : Ideal .f32) = ((((L (ix2 0 b)).toInt - 1 : ℤ) : ℝ) : EReal) :=
    fun b => congrArg (fun z : ℤ => ((z : ℝ) : EReal)) (pred_toInt _ (h1 b) (h2 b))
  unfold loss
  simp only [← s]
  pointwise [k0_pay3]
  exact congrArg₂ Ideal.div (Fin.sum_univ_one _) (congrArg (max · 1) (Fin.sum_univ_one _))

end Cert.Own.Loss

end
-- ==== Proof.KJ.Loss.lean ====
module

public import proofs.«01_k».proof.Proof.KJ.Value
public import proofs.«01_k».proof.Proof.K2.Pay
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Own.Loss

open Idealize.ShloMosaic Idealize.ShloMosaic.TcCoe Idealize.SL.Sem Cert.Kernel2Ideal Cert.Kernel2Ideal.Gen Cert.Kernel2Ideal.Value

variable (m : (ℓ : Loc nD τ sig) → Buf (Elt Ideal) ℓ) (c : Dev nD)

/-- The blocks of the lengths and of the loss vector are the same at every grid point. -/
theorem idx : ∀ t : Fin cfg0.N, win0_2.index t = ![0, 0] ∧ win0_7.index t = ![0, 0] :=
  (by decide +kernel : ∀ t : Fin grid0.N, _)

set_option maxHeartbeats 2000000 in
/-- The lengths as a grid point reads them. -/
theorem lens (t : Fin cfg0.N) (b : Fin 1024) : (show Vec Ideal S1x1024 .i32 from iblk m c 2 t) (ix2 0 b) = m ((c : Thread nD τ).loc main_arg5) (ix1 b) := by
  blk_simp [iblk, idx t]
  unfold V
  after_reads_simp
  pointwise
  first | done | blk_ext [iblk, V, idx t]

set_option maxHeartbeats 2000000 in
/-- The loss vector as a grid point reads it. -/
theorem vecs (t : Fin cfg0.N) (l : Fin 8192) : (show Vec Ideal S1x8192 .f32 from iblk m c 7 t) (ix2 0 l) = m ((c : Thread nD τ).loc main_arg2) (ix2 0 l) := by
  blk_simp [iblk, idx t]
  unfold V
  after_reads_simp
  pointwise
  first | done | blk_ext [iblk, V, idx t]

/-- What the last point of a row writes back: the loss term of that point's lengths and loss vector. -/
theorem flushed (t : Fin cfg0.N) (h : t.val % 5 = 4) :
    (dats m 0 c).flushed 20 t = (cfg0.win 20).cut (grid0.coords t) (k0_pay3 (F := Ideal) (iblk m c 2 t) (iblk m c 7 t)) := by
  refine (flushed20_C m c t (by omega) h).trans (congrArg ((cfg0.win 20).cut (grid0.coords t)) ?_)
  frame_open
  simp (disch := decide) only [↓ View.readCov_skip, ↓ View.readCov_cons_toLoadRect, ↓ View.readCov_fill]
  frame_out

/-- The call's array holds the loss. -/
theorem array (h1 : ∀ b, 1 ≤ (m ((c : Thread nD τ).loc main_arg5) (ix1 b) : BitVec 32).toInt) (h2 : ∀ b, (m ((c : Thread nD τ).loc main_arg5) (ix1 b) : BitVec 32).toInt ≤ 200) :
    (dats m 0 c).arrAt 20 cfg0.N = fun _ => loss (fun l => m ((c : Thread nD τ).loc main_arg2) (ix2 0 l)) (fun b => m ((c : Thread nD τ).loc main_arg5) (ix1 b)) := by
  refine (dats m 0 c).arrAt_eq_of_cover 20 _ (fun t hf => ?_) (fun i => (covered_iff20 i).2 (by
    have h0 : (i 0).val < 1 := (i 0).isLt; have h1 : (i 1).val < 1 := (i 1).isLt; omega))
  rw [flushed m c t ((flush0_20 t).mp hf)]
  funext y
  refine (pay3_at (iblk m c 2 t) (iblk m c 7 t) (fun b => ?_) (fun b => ?_) ((cfg0.win 20).xinj (grid0.coords t) y)).trans ?_
  · exact (congrArg BitVec.toInt (lens m c t b)).symm ▸ h1 b
  · exact (congrArg BitVec.toInt (lens m c t b)).symm ▸ h2 b
  · exact congrArg₂ loss (funext fun l => vecs m c t l) (funext fun b => lens m c t b)

end Cert.Own.Loss

end
-- ==== Proof.K2.Pre.lean ====
module

public import Idealize.ShloMosaic.PureOps.Ideal

@[expose] public section

noncomputable section

namespace Cert.Own.Loss

open Idealize.ShloMosaic

/-- A conjunction of two comparisons reads one only if both hold. -/
theorem both (n : BitVec 32) (h : IntOp.andi (IntOp.cmpi .sge n 1#32) (IntOp.cmpi .sle n 200#32) = 1#1) : 1 ≤ n.toInt ∧ n.toInt ≤ 200 := by
  have s : (1#32).sle n = true ∧ n.sle 200#32 = true := by
    revert h
    show ((BitVec.ofBool ((1#32).sle n)) &&& BitVec.ofBool (n.sle 200#32) = 1#1) → _
    cases (1#32).sle n <;> cases n.sle 200#32 <;> decide
  rw [BitVec.sle_eq_decide, BitVec.sle_eq_decide] at s
  exact ⟨of_decide_eq_true s.1, of_decide_eq_true s.2⟩

end Cert.Own.Loss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KI.Value
public import proofs.«01_k».proof.Proof.RI.StepRun
public import proofs.«01_k».proof.Proof.Final
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_lengths_in_range
public import proofs.«01_k».proof.Proof.Same
public import proofs.«01_k».proof.Proof.KJ.Loss
public import proofs.«01_k».proof.Proof.K2.Ref
public import proofs.«01_k».proof.Proof.K2.Pre
public import Idealize.ShloMosaic.Adequacy
public import Idealize.ShloMosaic.Init

@[expose] public section

noncomputable section

namespace Cert.Proof

open Idealize.ShloMosaic Idealize.SL.Sem

/-- The states of the reference's loop, from the arguments on. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

/-- The reference's frame. -/
theorem frame_r : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.StepRun.run_iter (F := Ideal) m g (states m) (fun _ => rfl) (fun _ _ => rfl))

/-- The value claim: the call's three arrays are the reference's three results. -/
theorem value : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G18 m c, fun c => Cert.KernelIdeal.Value.G19 m c, fun c => Cert.KernelIdeal.Value.G20 m c,
    Cert.KernelIdeal.Value.run m g, ?_⟩
  refine (θ_run Cert.ReferenceIdeal.defs _ _).mono (fun r h c => ?_)
    (Cert.ReferenceIdeal.StepRun.run_iter (F := Ideal) m' g' (states m') (fun _ => rfl) (fun _ _ => rfl))
  obtain ⟨r0, r1, r2, rest⟩ := h c
  obtain ⟨e0, e1, e2, e3, e4, e5, e6, e7, e8, e9, e10, e11, e12, e13, e14, e15⟩ := hargs c
  have h0 : states m' c 0 = Cert.ReferenceIdeal.Step.init (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) := by
    show Cert.ReferenceIdeal.Step.init _ _ _ _ = _
    rw [e0, e3, e4, e5]
  refine ⟨r0.trans (Cert.Own.Fin.hs_eq m c h0 fun _ => rfl), r1.trans ?_, r2.trans ?_, rest⟩
  · rw [e2, e12, e13, e14, e15]
    exact Cert.Own.Fin.sc_eq m c h0 fun _ => rfl
  · rw [e0, e1, e3, e6, e7, e8, e9, e10, e11]
    exact Cert.Own.Fin.ls_eq m c h0 fun _ => rfl

/-- The second reference's frame. -/
theorem frame_r2 : Cert.quiescent_Reference2Ideal (hReference2Ideal := Cert.Reference2Ideal.Gen.facts) := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

section
open Cert.Kernel2Ideal

/-- What the precondition says of the lengths: each is between 1 and 200. -/
theorem lengths (m : (ℓ : Loc nD τ sig) → Buf (Elt Ideal) ℓ)
    (h : Cert.Pre_Kernel2Ideal_lengths_in_range (hPre_lengths_in_range := Cert.Pre_lengths_in_range.Gen.facts) m) (c : Dev nD) (b : Fin 1024) :
    1 ≤ (m ((c.tc : Thread nD τ).loc main_arg5) (ix1 b) : BitVec 32).toInt ∧ (m ((c.tc : Thread nD τ).loc main_arg5) (ix1 b) : BitVec 32).toInt ≤ 200 :=
  Cert.Own.Loss.both _ (congrFun (h c) (ix1 b))
end

/-- The second value claim: the second call's loss is its reference's. -/
theorem value2 : Cert.algebraic_Kernel2Ideal_Reference2Ideal_pre_lengths_in_range (hKernel2Ideal := Cert.Kernel2Ideal.Gen.facts)
    (hReference2Ideal := Cert.Reference2Ideal.Gen.facts) (hPre_lengths_in_range := Cert.Pre_lengths_in_range.Gen.facts) := by
  intro m g m' g' hp hargs
  have hl := lengths m hp
  refine ⟨fun c _ => Cert.Own.Loss.loss (fun l => m ((c.tc : Thread Cert.Kernel2Ideal.nD Cert.Kernel2Ideal.τ).loc Cert.Kernel2Ideal.main_arg2) (ix2 0 l))
      (fun b => m ((c.tc : Thread Cert.Kernel2Ideal.nD Cert.Kernel2Ideal.τ).loc Cert.Kernel2Ideal.main_arg5) (ix1 b)), ?_, ?_⟩
  · refine (θ_run Cert.Kernel2Ideal.defs _ _).mono (fun r h c => ⟨(h c).1.trans ?_, (h c).2⟩) (Cert.Kernel2Ideal.Value.run_blocks (F := Ideal) m g)
    exact Cert.Own.Loss.array m c (fun b => (hl c b).1) (fun b => (hl c b).2)
  · refine (θ_run Cert.Reference2Ideal.defs _ _).mono (fun r h c => ⟨(h c).1.trans ?_, (h c).2⟩) (Cert.Reference2Ideal.Value.run (F := Ideal) m' g')
    obtain ⟨_, _, e2, _, _, e5, _⟩ := hargs c
    rw [e2, e5]
    funext j
    exact Cert.Own.Loss.ref_at _ _ (fun b => (hl c b).1) (fun b => (hl c b).2) j

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_lengths_in_range.Gen.facts,
  Cert.Own.Same.frame_k, fun m g _ => Cert.KernelIdeal.Gen.frame m g, frame_r,
  Cert.Own.Same.frame_k2, fun m g _ => Cert.Kernel2Ideal.Gen.frame m g, fun m g _ => Cert.Kernel2Ideal.Gen.frame m g,
  frame_r2, fun m g _ => frame_r2 m g trivial, trivial, value, trivial, value2⟩

end Cert.Proof

end
